-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressRefIdeal (m : (ℓ : Loc Cert.CompressRefIdeal.nD Cert.CompressRefIdeal.τ Cert.CompressRefIdeal.sig) → Buf (Elt Ideal) ℓ) : Prop :=
  True

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_Nsa (m : (ℓ : Loc Cert.Nsa.nD Cert.Nsa.τ Cert.Nsa.sig) → Buf (Elt Bits) ℓ) : Prop :=
  True

def Pre_NsaIdeal (m : (ℓ : Loc Cert.NsaIdeal.nD Cert.NsaIdeal.τ Cert.NsaIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8)
      ∧ r.2.mem ((c.tc : Thread Cert.Outproj.nD Cert.Outproj.τ).loc Cert.Outproj.main_arg9) = m ((c.tc : Thread Cert.Outproj.nD Cert.Outproj.τ).loc Cert.Outproj.main_arg9)
      ∧ r.2.mem ((c.tc : Thread Cert.Outproj.nD Cert.Outproj.τ).loc Cert.Outproj.main_arg10) = m ((c.tc : Thread Cert.Outproj.nD Cert.Outproj.τ).loc Cert.Outproj.main_arg10)
      ∧ r.2.mem ((c.tc : Thread Cert.Outproj.nD Cert.Outproj.τ).loc Cert.Outproj.main_arg11) = m ((c.tc : Thread Cert.Outproj.nD Cert.Outproj.τ).loc Cert.Outproj.main_arg11))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
      ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10)
      ∧ r.2.mem ((c.tc : Thread Cert.OutprojIdeal.nD Cert.OutprojIdeal.τ).loc Cert.OutprojIdeal.main_arg11) = m ((c.tc : Thread Cert.OutprojIdeal.nD Cert.OutprojIdeal.τ).loc Cert.OutprojIdeal.main_arg11))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8)
      ∧ r.2.mem ((c.tc : Thread Cert.OutprojRefIdeal.nD Cert.OutprojRefIdeal.τ).loc Cert.OutprojRefIdeal.main_arg9) = m ((c.tc : Thread Cert.OutprojRefIdeal.nD Cert.OutprojRefIdeal.τ).loc Cert.OutprojRefIdeal.main_arg9)
      ∧ r.2.mem ((c.tc : Thread Cert.OutprojRefIdeal.nD Cert.OutprojRefIdeal.τ).loc Cert.OutprojRefIdeal.main_arg10) = m ((c.tc : Thread Cert.OutprojRefIdeal.nD Cert.OutprojRefIdeal.τ).loc Cert.OutprojRefIdeal.main_arg10)
      ∧ r.2.mem ((c.tc : Thread Cert.OutprojRefIdeal.nD Cert.OutprojRefIdeal.τ).loc Cert.OutprojRefIdeal.main_arg11) = m ((c.tc : Thread Cert.OutprojRefIdeal.nD Cert.OutprojRefIdeal.τ).loc Cert.OutprojRefIdeal.main_arg11))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1)
      ∧ r.2.mem ((c.tc : Thread Cert.Moba.nD Cert.Moba.τ).loc Cert.Moba.main_arg2) = m ((c.tc : Thread Cert.Moba.nD Cert.Moba.τ).loc Cert.Moba.main_arg2)
      ∧ r.2.mem ((c.tc : Thread Cert.Moba.nD Cert.Moba.τ).loc Cert.Moba.main_arg3) = m ((c.tc : Thread Cert.Moba.nD Cert.Moba.τ).loc Cert.Moba.main_arg3)
      ∧ r.2.mem ((c.tc : Thread Cert.Moba.nD Cert.Moba.τ).loc Cert.Moba.main_arg4) = m ((c.tc : Thread Cert.Moba.nD Cert.Moba.τ).loc Cert.Moba.main_arg4))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
      ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3)
      ∧ r.2.mem ((c.tc : Thread Cert.MobaIdeal.nD Cert.MobaIdeal.τ).loc Cert.MobaIdeal.main_arg4) = m ((c.tc : Thread Cert.MobaIdeal.nD Cert.MobaIdeal.τ).loc Cert.MobaIdeal.main_arg4))
      ∧ r.2.sem = fun _ => 0)

def quiescent_Nsa [hNsa : Cert.Nsa.Facts] : Prop :=
  ∀ (m : (ℓ : Loc Cert.Nsa.nD Cert.Nsa.τ Cert.Nsa.sig) → Buf (Elt Bits) ℓ) (g : Dev Cert.Nsa.nD → PrngReg), Pre_Nsa m →
    θ_run (Cert.Nsa.defs (F := Bits)) (onTc (τ := Cert.Nsa.τ) (Cert.Nsa.main (F := Bits))) ⟨m, fun _ => 0, g⟩ (fun r => (∀ c : Dev Cert.Nsa.nD,
      r.2.mem ((c.tc : Thread Cert.Nsa.nD Cert.Nsa.τ).loc Cert.Nsa.main_arg0) = m ((c.tc : Thread Cert.Nsa.nD Cert.Nsa.τ).loc Cert.Nsa.main_arg0)
      ∧ r.2.mem ((c.tc : Thread Cert.Nsa.nD Cert.Nsa.τ).loc Cert.Nsa.main_arg1) = m ((c.tc : Thread Cert.Nsa.nD Cert.Nsa.τ).loc Cert.Nsa.main_arg1)
      ∧ r.2.mem ((c.tc : Thread Cert.Nsa.nD Cert.Nsa.τ).loc Cert.Nsa.main_arg2) = m ((c.tc : Thread Cert.Nsa.nD Cert.Nsa.τ).loc Cert.Nsa.main_arg2)
      ∧ r.2.mem ((c.tc : Thread Cert.Nsa.nD Cert.Nsa.τ).loc Cert.Nsa.main_arg3) = m ((c.tc : Thread Cert.Nsa.nD Cert.Nsa.τ).loc Cert.Nsa.main_arg3)
      ∧ r.2.mem ((c.tc : Thread Cert.Nsa.nD Cert.Nsa.τ).loc Cert.Nsa.main_arg4) = m ((c.tc : Thread Cert.Nsa.nD Cert.Nsa.τ).loc Cert.Nsa.main_arg4)
      ∧ r.2.mem ((c.tc : Thread Cert.Nsa.nD Cert.Nsa.τ).loc Cert.Nsa.main_arg5) = m ((c.tc : Thread Cert.Nsa.nD Cert.Nsa.τ).loc Cert.Nsa.main_arg5)
      ∧ r.2.mem ((c.tc : Thread Cert.Nsa.nD Cert.Nsa.τ).loc Cert.Nsa.main_arg6) = m ((c.tc : Thread Cert.Nsa.nD Cert.Nsa.τ).loc Cert.Nsa.main_arg6)
      ∧ r.2.mem ((c.tc : Thread Cert.Nsa.nD Cert.Nsa.τ).loc Cert.Nsa.main_arg7) = m ((c.tc : Thread Cert.Nsa.nD Cert.Nsa.τ).loc Cert.Nsa.main_arg7))
      ∧ r.2.sem = fun _ => 0)

def quiescent_NsaIdeal [hNsaIdeal : Cert.NsaIdeal.Facts] : Prop :=
  ∀ (m : (ℓ : Loc Cert.NsaIdeal.nD Cert.NsaIdeal.τ Cert.NsaIdeal.sig) → Buf (Elt Ideal) ℓ) (g : Dev Cert.NsaIdeal.nD → PrngReg), Pre_NsaIdeal m →
    θ_run (Cert.NsaIdeal.defs (F := Ideal)) (onTc (τ := Cert.NsaIdeal.τ) (Cert.NsaIdeal.main (F := Ideal))) ⟨m, fun _ => 0, g⟩ (fun r => (∀ c : Dev Cert.NsaIdeal.nD,
      r.2.mem ((c.tc : Thread Cert.NsaIdeal.nD Cert.NsaIdeal.τ).loc Cert.NsaIdeal.main_arg0) = m ((c.tc : Thread Cert.NsaIdeal.nD Cert.NsaIdeal.τ).loc Cert.NsaIdeal.main_arg0)
      ∧ r.2.mem ((c.tc : Thread Cert.NsaIdeal.nD Cert.NsaIdeal.τ).loc Cert.NsaIdeal.main_arg1) = m ((c.tc : Thread Cert.NsaIdeal.nD Cert.NsaIdeal.τ).loc Cert.NsaIdeal.main_arg1)
      ∧ r.2.mem ((c.tc : Thread Cert.NsaIdeal.nD Cert.NsaIdeal.τ).loc Cert.NsaIdeal.main_arg2) = m ((c.tc : Thread Cert.NsaIdeal.nD Cert.NsaIdeal.τ).loc Cert.NsaIdeal.main_arg2)
      ∧ r.2.mem ((c.tc : Thread Cert.NsaIdeal.nD Cert.NsaIdeal.τ).loc Cert.NsaIdeal.main_arg3) = m ((c.tc : Thread Cert.NsaIdeal.nD Cert.NsaIdeal.τ).loc Cert.NsaIdeal.main_arg3)
      ∧ r.2.mem ((c.tc : Thread Cert.NsaIdeal.nD Cert.NsaIdeal.τ).loc Cert.NsaIdeal.main_arg4) = m ((c.tc : Thread Cert.NsaIdeal.nD Cert.NsaIdeal.τ).loc Cert.NsaIdeal.main_arg4)
      ∧ r.2.mem ((c.tc : Thread Cert.NsaIdeal.nD Cert.NsaIdeal.τ).loc Cert.NsaIdeal.main_arg5) = m ((c.tc : Thread Cert.NsaIdeal.nD Cert.NsaIdeal.τ).loc Cert.NsaIdeal.main_arg5)
      ∧ r.2.mem ((c.tc : Thread Cert.NsaIdeal.nD Cert.NsaIdeal.τ).loc Cert.NsaIdeal.main_arg6) = m ((c.tc : Thread Cert.NsaIdeal.nD Cert.NsaIdeal.τ).loc Cert.NsaIdeal.main_arg6)
      ∧ r.2.mem ((c.tc : Thread Cert.NsaIdeal.nD Cert.NsaIdeal.τ).loc Cert.NsaIdeal.main_arg7) = m ((c.tc : Thread Cert.NsaIdeal.nD Cert.NsaIdeal.τ).loc Cert.NsaIdeal.main_arg7))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)
      ∧ m' ((c.tc : Thread Cert.OutprojRefIdeal.nD Cert.OutprojRefIdeal.τ).loc Cert.OutprojRefIdeal.main_arg9) = m ((c.tc : Thread Cert.OutprojIdeal.nD Cert.OutprojIdeal.τ).loc Cert.OutprojIdeal.main_arg9)
      ∧ m' ((c.tc : Thread Cert.OutprojRefIdeal.nD Cert.OutprojRefIdeal.τ).loc Cert.OutprojRefIdeal.main_arg10) = m ((c.tc : Thread Cert.OutprojIdeal.nD Cert.OutprojIdeal.τ).loc Cert.OutprojIdeal.main_arg10)
      ∧ m' ((c.tc : Thread Cert.OutprojRefIdeal.nD Cert.OutprojRefIdeal.τ).loc Cert.OutprojRefIdeal.main_arg11) = m ((c.tc : Thread Cert.OutprojIdeal.nD Cert.OutprojIdeal.τ).loc Cert.OutprojIdeal.main_arg11)) →
    ∃ (v0 : (c : Dev Cert.OutprojIdeal.nD) → Buf (Elt Ideal) ((c.tc : Thread Cert.OutprojIdeal.nD Cert.OutprojIdeal.τ).loc Cert.OutprojIdeal.main_v12)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v12) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
          ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
          ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10)
          ∧ r.2.mem ((c.tc : Thread Cert.OutprojIdeal.nD Cert.OutprojIdeal.τ).loc Cert.OutprojIdeal.main_arg11) = m ((c.tc : Thread Cert.OutprojIdeal.nD Cert.OutprojIdeal.τ).loc Cert.OutprojIdeal.main_arg11))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v42) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8)
          ∧ r.2.mem ((c.tc : Thread Cert.OutprojRefIdeal.nD Cert.OutprojRefIdeal.τ).loc Cert.OutprojRefIdeal.main_arg9) = m' ((c.tc : Thread Cert.OutprojRefIdeal.nD Cert.OutprojRefIdeal.τ).loc Cert.OutprojRefIdeal.main_arg9)
          ∧ r.2.mem ((c.tc : Thread Cert.OutprojRefIdeal.nD Cert.OutprojRefIdeal.τ).loc Cert.OutprojRefIdeal.main_arg10) = m' ((c.tc : Thread Cert.OutprojRefIdeal.nD Cert.OutprojRefIdeal.τ).loc Cert.OutprojRefIdeal.main_arg10)
          ∧ r.2.mem ((c.tc : Thread Cert.OutprojRefIdeal.nD Cert.OutprojRefIdeal.τ).loc Cert.OutprojRefIdeal.main_arg11) = m' ((c.tc : Thread Cert.OutprojRefIdeal.nD Cert.OutprojRefIdeal.τ).loc Cert.OutprojRefIdeal.main_arg11))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v22_0)) (v1 : (c : Dev Cert.InprojIdeal.nD) → Buf (Elt Ideal) ((c.tc : Thread Cert.InprojIdeal.nD Cert.InprojIdeal.τ).loc Cert.InprojIdeal.main_v22_1)) (v2 : (c : Dev Cert.InprojIdeal.nD) → Buf (Elt Ideal) ((c.tc : Thread Cert.InprojIdeal.nD Cert.InprojIdeal.τ).loc Cert.InprojIdeal.main_v22_2)) (v3 : (c : Dev Cert.InprojIdeal.nD) → Buf (Elt Ideal) ((c.tc : Thread Cert.InprojIdeal.nD Cert.InprojIdeal.τ).loc Cert.InprojIdeal.main_v22_3)) (v4 : (c : Dev Cert.InprojIdeal.nD) → Buf (Elt Ideal) ((c.tc : Thread Cert.InprojIdeal.nD Cert.InprojIdeal.τ).loc Cert.InprojIdeal.main_v22_4)) (v5 : (c : Dev Cert.InprojIdeal.nD) → Buf (Elt Ideal) ((c.tc : Thread Cert.InprojIdeal.nD Cert.InprojIdeal.τ).loc Cert.InprojIdeal.main_v22_5)) (v6 : (c : Dev Cert.InprojIdeal.nD) → Buf (Elt Ideal) ((c.tc : Thread Cert.InprojIdeal.nD Cert.InprojIdeal.τ).loc Cert.InprojIdeal.main_v22_6)) (v7 : (c : Dev Cert.InprojIdeal.nD) → Buf (Elt Ideal) ((c.tc : Thread Cert.InprojIdeal.nD Cert.InprojIdeal.τ).loc Cert.InprojIdeal.main_v22_7)) (v8 : (c : Dev Cert.InprojIdeal.nD) → Buf (Elt Ideal) ((c.tc : Thread Cert.InprojIdeal.nD Cert.InprojIdeal.τ).loc Cert.InprojIdeal.main_v22_8)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v22_0) = v0 c
          ∧ r.2.mem ((c.tc : Thread Cert.InprojIdeal.nD Cert.InprojIdeal.τ).loc Cert.InprojIdeal.main_v22_1) = v1 c
          ∧ r.2.mem ((c.tc : Thread Cert.InprojIdeal.nD Cert.InprojIdeal.τ).loc Cert.InprojIdeal.main_v22_2) = v2 c
          ∧ r.2.mem ((c.tc : Thread Cert.InprojIdeal.nD Cert.InprojIdeal.τ).loc Cert.InprojIdeal.main_v22_3) = v3 c
          ∧ r.2.mem ((c.tc : Thread Cert.InprojIdeal.nD Cert.InprojIdeal.τ).loc Cert.InprojIdeal.main_v22_4) = v4 c
          ∧ r.2.mem ((c.tc : Thread Cert.InprojIdeal.nD Cert.InprojIdeal.τ).loc Cert.InprojIdeal.main_v22_5) = v5 c
          ∧ r.2.mem ((c.tc : Thread Cert.InprojIdeal.nD Cert.InprojIdeal.τ).loc Cert.InprojIdeal.main_v22_6) = v6 c
          ∧ r.2.mem ((c.tc : Thread Cert.InprojIdeal.nD Cert.InprojIdeal.τ).loc Cert.InprojIdeal.main_v22_7) = v7 c
          ∧ r.2.mem ((c.tc : Thread Cert.InprojIdeal.nD Cert.InprojIdeal.τ).loc Cert.InprojIdeal.main_v22_8) = v8 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v39) = v0 c
          ∧ r.2.mem ((c.tc : Thread Cert.InprojRefIdeal.nD Cert.InprojRefIdeal.τ).loc Cert.InprojRefIdeal.main_v50) = v1 c
          ∧ r.2.mem ((c.tc : Thread Cert.InprojRefIdeal.nD Cert.InprojRefIdeal.τ).loc Cert.InprojRefIdeal.main_v25) = v2 c
          ∧ r.2.mem ((c.tc : Thread Cert.InprojRefIdeal.nD Cert.InprojRefIdeal.τ).loc Cert.InprojRefIdeal.main_v26) = v3 c
          ∧ r.2.mem ((c.tc : Thread Cert.InprojRefIdeal.nD Cert.InprojRefIdeal.τ).loc Cert.InprojRefIdeal.main_v53) = v4 c
          ∧ r.2.mem ((c.tc : Thread Cert.InprojRefIdeal.nD Cert.InprojRefIdeal.τ).loc Cert.InprojRefIdeal.main_v56) = v5 c
          ∧ r.2.mem ((c.tc : Thread Cert.InprojRefIdeal.nD Cert.InprojRefIdeal.τ).loc Cert.InprojRefIdeal.main_v46) = v6 c
          ∧ r.2.mem ((c.tc : Thread Cert.InprojRefIdeal.nD Cert.InprojRefIdeal.τ).loc Cert.InprojRefIdeal.main_v58) = v7 c
          ∧ r.2.mem ((c.tc : Thread Cert.InprojRefIdeal.nD Cert.InprojRefIdeal.τ).loc Cert.InprojRefIdeal.main_v59) = v8 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Compress_CompressIdeal : Prop :=
  True

def algebraic_CompressIdeal_CompressRefIdeal [hCompressIdeal : Cert.CompressIdeal.Facts] [hCompressRefIdeal : Cert.CompressRefIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)
      ∧ m' ((c.tc : Thread Cert.CompressRefIdeal.nD Cert.CompressRefIdeal.τ).loc Cert.CompressRefIdeal.main_arg4) = m ((c.tc : Thread Cert.CompressIdeal.nD Cert.CompressIdeal.τ).loc Cert.CompressIdeal.main_arg4)) →
    ∃ (v0 : (c : Dev Cert.CompressIdeal.nD) → Buf (Elt Ideal) ((c.tc : Thread Cert.CompressIdeal.nD Cert.CompressIdeal.τ).loc Cert.CompressIdeal.main_v9_0)) (v1 : (c : Dev Cert.CompressIdeal.nD) → Buf (Elt Ideal) ((c.tc : Thread Cert.CompressIdeal.nD Cert.CompressIdeal.τ).loc Cert.CompressIdeal.main_v9_1)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v9_0) = v0 c
          ∧ r.2.mem ((c.tc : Thread Cert.CompressIdeal.nD Cert.CompressIdeal.τ).loc Cert.CompressIdeal.main_v9_1) = v1 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v75) = v0 c
          ∧ r.2.mem ((c.tc : Thread Cert.CompressRefIdeal.nD Cert.CompressRefIdeal.τ).loc Cert.CompressRefIdeal.main_v77) = v1 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3)
          ∧ r.2.mem ((c.tc : Thread Cert.CompressRefIdeal.nD Cert.CompressRefIdeal.τ).loc Cert.CompressRefIdeal.main_arg4) = m' ((c.tc : Thread Cert.CompressRefIdeal.nD Cert.CompressRefIdeal.τ).loc Cert.CompressRefIdeal.main_arg4))

def preserves_Moba_MobaIdeal : Prop :=
  True

def preserves_Nsa_NsaIdeal : Prop :=
  True

def Claim : Prop :=
  ∃ (hFfn : Cert.Ffn.Facts) (hFfnIdeal : Cert.FfnIdeal.Facts) (hFfnRefIdeal : Cert.FfnRefIdeal.Facts) (hOutproj : Cert.Outproj.Facts) (hOutprojIdeal : Cert.OutprojIdeal.Facts) (hOutprojRefIdeal : Cert.OutprojRefIdeal.Facts) (hInproj : Cert.Inproj.Facts) (hInprojIdeal : Cert.InprojIdeal.Facts) (hInprojRefIdeal : Cert.InprojRefIdeal.Facts) (hCompress : Cert.Compress.Facts) (hCompressIdeal : Cert.CompressIdeal.Facts) (hCompressRefIdeal : Cert.CompressRefIdeal.Facts) (hMoba : Cert.Moba.Facts) (hMobaIdeal : Cert.MobaIdeal.Facts) (hNsa : Cert.Nsa.Facts) (hNsaIdeal : Cert.NsaIdeal.Facts),
    quiescent_Ffn (hFfn := hFfn)
    ∧ quiescent_FfnIdeal (hFfnIdeal := hFfnIdeal)
    ∧ quiescent_FfnRefIdeal (hFfnRefIdeal := hFfnRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Compress (hCompress := hCompress)
    ∧ quiescent_CompressIdeal (hCompressIdeal := hCompressIdeal)
    ∧ quiescent_CompressRefIdeal (hCompressRefIdeal := hCompressRefIdeal)
    ∧ quiescent_Moba (hMoba := hMoba)
    ∧ quiescent_MobaIdeal (hMobaIdeal := hMobaIdeal)
    ∧ quiescent_Nsa (hNsa := hNsa)
    ∧ quiescent_NsaIdeal (hNsaIdeal := hNsaIdeal)
    ∧ preserves_Ffn_FfnIdeal
    ∧ algebraic_FfnIdeal_FfnRefIdeal (hFfnIdeal := hFfnIdeal) (hFfnRefIdeal := hFfnRefIdeal)
    ∧ preserves_Outproj_OutprojIdeal
    ∧ algebraic_OutprojIdeal_OutprojRefIdeal (hOutprojIdeal := hOutprojIdeal) (hOutprojRefIdeal := hOutprojRefIdeal)
    ∧ preserves_Inproj_InprojIdeal
    ∧ algebraic_InprojIdeal_InprojRefIdeal (hInprojIdeal := hInprojIdeal) (hInprojRefIdeal := hInprojRefIdeal)
    ∧ preserves_Compress_CompressIdeal
    ∧ algebraic_CompressIdeal_CompressRefIdeal (hCompressIdeal := hCompressIdeal) (hCompressRefIdeal := hCompressRefIdeal)
    ∧ preserves_Moba_MobaIdeal
    ∧ preserves_Nsa_NsaIdeal
-- ==== Ffn.lean ====
abbrev S16x2048x1024 : Shape := ⟨3, ![16, 2048, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16x2048x1024 : Shape := ⟨3, ![16, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2816 : Shape := ⟨3, ![16, 2048, 2816]⟩
abbrev S32768x1024 : Shape := ⟨2, ![32768, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x2048x2816, .f32⟩
  | .hbm, ⟨22, _⟩ => ⟨S16x2048x2816, .f32⟩
  | .hbm, ⟨23, _⟩ => ⟨S16x2048x2816, .f32⟩
  | .hbm, ⟨24, _⟩ => ⟨S_, .f32⟩
  | .hbm, ⟨25, _⟩ => ⟨S16x2048x2816, .f32⟩
  | .hbm, ⟨26, _⟩ => ⟨S16x2048x2816, .f32⟩
  | .hbm, ⟨27, _⟩ => ⟨S_, .f32⟩
  | .hbm, ⟨28, _⟩ => ⟨S16x2048x2816, .f32⟩
  | .hbm, ⟨29, _⟩ => ⟨S16x2048x2816, .f32⟩
  | .hbm, ⟨30, _⟩ => ⟨S16x2048x2816, .f32⟩
  | .hbm, ⟨31, _⟩ => ⟨S16x2048x2816, .f32⟩
  | .hbm, ⟨32, _⟩ => ⟨S16x2048x2816, .f32⟩
  | .hbm, ⟨33, _⟩ => ⟨S16x2048x1024, .f32⟩
  | .hbm, ⟨34, _⟩ => ⟨S_, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Outproj.lean ====
abbrev S16x2048x1024 : Shape := ⟨3, ![16, 2048, 1024]⟩
abbrev S16x2048x512 : Shape := ⟨3, ![16, 2048, 512]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S32768x512 : Shape := ⟨2, ![32768, 512]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 25
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S16x2048x1024, .f32⟩
  | .hbm, ⟨4, _⟩ => ⟨S16x2048x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S32768x1024, .f32⟩
  | .hbm, ⟨13, _⟩ => ⟨S32768x512, .bf16⟩
  | .hbm, ⟨14, _⟩ => ⟨S32768x512, .bf16⟩
  | .hbm, ⟨15, _⟩ => ⟨S32768x1024, .f32⟩
  | .hbm, ⟨16, _⟩ => ⟨S32768x1024, .f32⟩
  | .hbm, ⟨17, _⟩ => ⟨S512x1024, .bf16⟩
  | .hbm, ⟨18, _⟩ => ⟨S512x1024, .bf16⟩
  | .hbm, ⟨19, _⟩ => ⟨S1024x1024, .bf16⟩
  | .hbm, ⟨20, _⟩ => ⟨S1024x2816, .bf16⟩
  | .hbm, ⟨21, _⟩ => ⟨S1024x2816, .bf16⟩
  | .hbm, ⟨22, _⟩ => ⟨S2816x1024, .bf16⟩
  | .hbm, ⟨23, _⟩ => ⟨S1x1024, .f32⟩
  | .hbm, ⟨24, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S512x1024, .f32⟩
  | .local _ .vmem, ⟨18, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutprojRefIdeal.lean ====
abbrev S16x2048x1024 : Shape := ⟨3, ![16, 2048, 1024]⟩
abbrev S16x2048x512 : Shape := ⟨3, ![16, 2048, 512]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2816 : Shape := ⟨3, ![16, 2048, 2816]⟩
abbrev S32768x1024 : Shape := ⟨2, ![32768, 1024]⟩

abbrev nBuf : Space → Nat
  | .hbm => 71
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S16x2048x1024, .f32⟩
  | .hbm, ⟨4, _⟩ => ⟨S16x2048x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S16x2048x512, .f32⟩
  | .hbm, ⟨13, _⟩ => ⟨S16x2048x512, .f32⟩
  | .hbm, ⟨14, _⟩ => ⟨S16x2048x1024, .f32⟩
  | .hbm, ⟨15, _⟩ => ⟨S16x2048x1024, .f32⟩
  | .hbm, ⟨16, _⟩ => ⟨S_, .f32⟩
  | .hbm, ⟨17, _⟩ => ⟨S16x2048x1024, .f32⟩
  | .hbm, ⟨18, _⟩ => ⟨S16x2048x1024, .f32⟩
  | .hbm, ⟨19, _⟩ => ⟨S_, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S_, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S_, .f32⟩
  | .hbm, ⟨39, _⟩ => ⟨S16x2048, .f32⟩
  | .hbm, ⟨40, _⟩ => ⟨S16x2048x1, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S16x2048x1, .f32⟩
  | .hbm, ⟨48, _⟩ => ⟨S16x2048x1024, .f32⟩
  | .hbm, ⟨49, _⟩ => ⟨S16x2048x1024, .f32⟩
  | .hbm, ⟨50, _⟩ => ⟨S1x1x1024, .f32⟩
  | .hbm, ⟨51, _⟩ => ⟨S16x2048x1024, .f32⟩
  | .hbm, ⟨52, _⟩ => ⟨S16x2048x1024, .f32⟩
  | .hbm, ⟨53, _⟩ => ⟨S16x2048x2816, .f32⟩
  | .hbm, ⟨54, _⟩ => ⟨S16x2048x2816, .f32⟩
  | .hbm, ⟨55, _⟩ => ⟨S16x2048x2816, .f32⟩
  | .hbm, ⟨56, _⟩ => ⟨S_, .f32⟩
  | .hbm, ⟨57, _⟩ => ⟨S16x2048x2816, .f32⟩
  | .hbm, ⟨58, _⟩ => ⟨S16x2048x2816, .f32⟩
  | .hbm, ⟨59, _⟩ => ⟨S_, .f32⟩
  | .hbm, ⟨60, _⟩ => ⟨S16x2048x2816, .f32⟩
  | .hbm, ⟨61, _⟩ => ⟨S16x2048x2816, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S16x2048x1024, .f32⟩
  | .hbm, ⟨66, _⟩ => ⟨S_, .f32⟩
  | .hbm, ⟨67, _⟩ => ⟨S16x2048x1024, .f32⟩
  | .hbm, ⟨68, _⟩ => ⟨S16x2048x1024, .f32⟩
  | .hbm, ⟨69, _⟩ => ⟨S16x2048x1024, .f32⟩
  | .hbm, ⟨70, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩

abbrev nD : Nat := 1
abbrev τ : Topo := Topo.v7x

variable {F : FTy → Type} [FloatOps F]
-- ==== Inproj.lean ====
abbrev S16x2048x1024 : Shape := ⟨3, ![16, 2048, 1024]⟩
abbrev S1024 : Shape := ⟨1, ![1024]⟩
abbrev S1024x4888 : Shape := ⟨2, ![1024, 4888]⟩
abbrev S1024x128 : Shape := ⟨2, ![1024, 128]⟩
abbrev S1024x512 : Shape := ⟨2, ![1024, 512]⟩
abbrev S1024x1024 : Shape := ⟨2, ![1024, 1024]⟩
abbrev S1024x3072 : Shape := ⟨2, ![1024, 3072]⟩
abbrev S1024x24 : Shape := ⟨2, ![1024, 24]⟩
abbrev S1024x2x12 : Shape := ⟨3, ![1024, 2, 12]⟩
abbrev S_ : Shape := ⟨0, ![]⟩
abbrev S1024x2x16 : Shape := ⟨3, ![1024, 2, 16]⟩
abbrev S1024x32 : Shape := ⟨2, ![1024, 32]⟩
abbrev S1024x1824 : Shape := ⟨2, ![1024, 1824]⟩
abbrev S1824x1024 : Shape := ⟨2, ![1824, 1024]⟩
abbrev S1x1024 : Shape := ⟨2, ![1, 1024]⟩
abbrev S16x4x2x2048x64 : Shape := ⟨5, ![16, 4, 2, 2048, 64]⟩
abbrev S16x8x2048x64 : Shape := ⟨4, ![16, 8, 2048, 64]⟩
abbrev S16x8x64x2048 : Shape := ⟨4, ![16, 8, 64, 2048]⟩
abbrev S16x2x2x16x64x128 : Shape := ⟨6, ![16, 2, 2, 16, 64, 128]⟩
abbrev S16x8x16x64x128 : Shape := ⟨5, ![16, 8, 16, 64, 128]⟩
abbrev S16x2x16x2048 : Shape := ⟨4, ![16, 2, 16, 2048]⟩
abbrev S1x512x1024 : Shape := ⟨3, ![1, 512, 1024]⟩
abbrev S1x4x2x512x64 : Shape := ⟨5, ![1, 4, 2, 512, 64]⟩
abbrev S1x8x512x64 : Shape := ⟨4, ![1, 8, 512, 64]⟩
abbrev S1x8x64x512 : Shape := ⟨4, ![1, 8, 64, 512]⟩
abbrev S1x2x2x4x64x128 : Shape := ⟨6, ![1, 2, 2, 4, 64, 128]⟩
abbrev S1x8x4x64x128 : Shape := ⟨5, ![1, 8, 4, 64, 128]⟩
abbrev S1x2x16x512 : Shape := ⟨4, ![1, 2, 16, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S512x64 : Shape := ⟨2, ![512, 64]⟩
abbrev S1x1x1x512x64 : Shape := ⟨5, ![1, 1, 1, 512, 64]⟩
abbrev S1x1x512x64 : Shape := ⟨4, ![1, 1, 512, 64]⟩
abbrev S64x512 : Shape := ⟨2, ![64, 512]⟩
abbrev S1x1x64x512 : Shape := ⟨4, ![1, 1, 64, 512]⟩
abbrev S256x1024 : Shape := ⟨2, ![256, 1024]⟩
abbrev S256x512 : Shape := ⟨2, ![256, 512]⟩
abbrev S64x128 : Shape := ⟨2, ![64, 128]⟩
abbrev S1x1x1x1x64x128 : Shape := ⟨6, ![1, 1, 1, 1, 64, 128]⟩
abbrev S1x1x1x64x128 : Shape := ⟨5, ![1, 1, 1, 64, 128]⟩
abbrev S32x1024 : Shape := ⟨2, ![32, 1024]⟩
abbrev S32x512 : Shape := ⟨2, ![32, 512]⟩
abbrev S16x512 : Shape := ⟨2, ![16, 512]⟩
abbrev S1x1x16x512 : Shape := ⟨4, ![1, 1, 16, 512]⟩

abbrev nBuf : Space → Nat
  | .hbm => 36
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4888, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x512, .f32⟩
  | .hbm, ⟨8, _⟩ => ⟨S1024x1024, .f32⟩
  | .hbm, ⟨9, _⟩ => ⟨S1024x1024, .f32⟩
  | .hbm, ⟨10, _⟩ => ⟨S1024x3072, .f32⟩
  | .hbm, ⟨11, _⟩ => ⟨S1024x24, .f32⟩
  | .hbm, ⟨12, _⟩ => ⟨S1024x2x12, .f32⟩
  | .hbm, ⟨13, _⟩ => ⟨S_, .i32⟩
  | .hbm, ⟨14, _⟩ => ⟨S_, .f32⟩
  | .hbm, ⟨15, _⟩ => ⟨S1024x2x16, .f32⟩
  | .hbm, ⟨16, _⟩ => ⟨S1024x32, .f32⟩
  | .hbm, ⟨17, _⟩ => ⟨S1024x512, .f32⟩
  | .hbm, ⟨18, _⟩ => ⟨S1024x512, .f32⟩
  | .hbm, ⟨19, _⟩ => ⟨S1024x128, .f32⟩
  | .hbm, ⟨20, _⟩ => ⟨S1024x128, .f32⟩
  | .hbm, ⟨21, _⟩ => ⟨S1024x512, .f32⟩
  | .hbm, ⟨22, _⟩ => ⟨S1024x1824, .f32⟩
  | .hbm, ⟨23, _⟩ => ⟨S1824x1024, .f32⟩
  | .hbm, ⟨24, _⟩ => ⟨S1024x3072, .bf16⟩
  | .hbm, ⟨25, _⟩ => ⟨S1824x1024, .bf16⟩
  | .hbm, ⟨26, _⟩ => ⟨S1x1024, .f32⟩
  | .hbm, ⟨27, _⟩ => ⟨S16x4x2x2048x64, .f32⟩
  | .hbm, ⟨28, _⟩ => ⟨S16x8x2048x64, .f32⟩
  | .hbm, ⟨29, _⟩ => ⟨S16x2048x1024, .f32⟩
  | .hbm, ⟨30, _⟩ => ⟨S16x2048x1024, .f32⟩
  | .hbm, ⟨31, _⟩ => ⟨S16x8x64x2048, .f32⟩
  | .hbm, ⟨32, _⟩ => ⟨S16x8x64x2048, .f32⟩
  | .hbm, ⟨33, _⟩ => ⟨S16x2x2x16x64x128, .f32⟩
  | .hbm, ⟨34, _⟩ => ⟨S16x8x16x64x128, .f32⟩
  | .hbm, ⟨35, _⟩ => ⟨S16x2x16x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S1824x1024, .bf16⟩
  | .local _ .vmem, ⟨5, _⟩ => ⟨S1x4x2x512x64, .f32⟩
  | .local _ .vmem, ⟨6, _⟩ => ⟨S1x4x2x512x64, .f32⟩
  | .local _ .vmem, ⟨7, _⟩ => ⟨S1x8x512x64, .f32⟩
  | .local _ .vmem, ⟨8, _⟩ => ⟨S1x8x512x64, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x8x64x512, .f32⟩
  | .local _ .vmem, ⟨14, _⟩ => ⟨S1x8x64x512, .f32⟩
  | .local _ .vmem, ⟨15, _⟩ => ⟨S1x8x64x512, .f32⟩
  | .local _ .vmem, ⟨16, _⟩ => ⟨S1x8x64x512, .f32⟩
  | .local _ .vmem, ⟨17, _⟩ => ⟨S1x2x2x4x64x128, .f32⟩
  | .local _ .vmem, ⟨18, _⟩ => ⟨S1x2x2x4x64x128, .f32⟩
  | .local _ .vmem, ⟨19, _⟩ => ⟨S1x8x4x64x128, .f32⟩
  | .local _ .vmem, ⟨20, _⟩ => ⟨S1x8x4x64x128, .f32⟩
  | .local _ .vmem, ⟨21, _⟩ => ⟨S1x2x16x512, .f32⟩
  | .local _ .vmem, ⟨22, _⟩ => ⟨S1x2x16x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev main_v22_2 : Ref sig .tc := ⟨.hbm, 29, rfl⟩
abbrev main_v22_3 : Ref sig .tc := ⟨.hbm, 30, rfl⟩
abbrev main_v22_4 : Ref sig .tc := ⟨.hbm, 31, rfl⟩
abbrev main_v22_5 : Ref sig .tc := ⟨.hbm, 32, rfl⟩
abbrev main_v22_6 : Ref sig .tc := ⟨.hbm, 33, rfl⟩
abbrev main_v22_7 : Ref sig .tc := ⟨.hbm, 34, rfl⟩
abbrev main_v22_8 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_10 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, arg1.toNat, c0_i32_1.toNat, c0_i32_2.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1824x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4x2x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x2x4x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x4x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InprojRefIdeal.lean ====
abbrev S16x2048x1024 : Shape := ⟨3, ![16, 2048, 1024]⟩
abbrev S1024 : Shape := ⟨1, ![1024]⟩
abbrev S1024x4888 : Shape := ⟨2, ![1024, 4888]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4888 : Shape := ⟨3, ![16, 2048, 4888]⟩
abbrev S16x2048x512 : Shape := ⟨3, ![16, 2048, 512]⟩
abbrev S16x2048x128 : Shape := ⟨3, ![16, 2048, 128]⟩
abbrev S16x2048x24 : Shape := ⟨3, ![16, 2048, 24]⟩
abbrev S16x2048x2x64 : Shape := ⟨4, ![16, 2048, 2, 64]⟩
abbrev S16x2x2048x64 : Shape := ⟨4, ![16, 2, 2048, 64]⟩
abbrev S16x1x2x2048x64 : Shape := ⟨5, ![16, 1, 2, 2048, 64]⟩
abbrev S16x4x2x2048x64 : Shape := ⟨5, ![16, 4, 2, 2048, 64]⟩
abbrev S16x16x128x2x64 : Shape := ⟨5, ![16, 16, 128, 2, 64]⟩
abbrev S16x2x16x64x128 : Shape := ⟨5, ![16, 2, 16, 64, 128]⟩
abbrev S16x1x2x16x64x128 : Shape := ⟨6, ![16, 1, 2, 16, 64, 128]⟩
abbrev S16x2x2x16x64x128 : Shape := ⟨6, ![16, 2, 2, 16, 64, 128]⟩
abbrev S16x2048x2x12 : Shape := ⟨4, ![16, 2048, 2, 12]⟩
abbrev S16x2048x2x16 : Shape := ⟨4, ![16, 2048, 2, 16]⟩
abbrev S16x2048x8x64 : Shape := ⟨4, ![16, 2048, 8, 64]⟩
abbrev S16x8x2048x64 : Shape := ⟨4, ![16, 8, 2048, 64]⟩
abbrev S16x8x64x2048 : Shape := ⟨4, ![16, 8, 64, 2048]⟩
abbrev S16x16x128x8x64 : Shape := ⟨5, ![16, 16, 128, 8, 64]⟩
abbrev S16x8x16x64x128 : Shape := ⟨5, ![16, 8, 16, 64, 128]⟩
abbrev S16x2x16x2048 : Shape := ⟨4, ![16, 2, 16, 2048]⟩

abbrev nBuf : Space → Nat
  | .hbm => 68
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4888, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x4888, .f32⟩
  | .hbm, ⟨20, _⟩ => ⟨S16x2048x512, .f32⟩
  | .hbm, ⟨21, _⟩ => ⟨S16x2048x128, .f32⟩
  | .hbm, ⟨22, _⟩ => ⟨S16x2048x128, .f32⟩
  | .hbm, ⟨23, _⟩ => ⟨S16x2048x128, .f32⟩
  | .hbm, ⟨24, _⟩ => ⟨S16x2048x128, .f32⟩
  | .hbm, ⟨25, _⟩ => ⟨S16x2048x128, .f32⟩
  | .hbm, ⟨26, _⟩ => ⟨S16x2048x128, .f32⟩
  | .hbm, ⟨27, _⟩ => ⟨S16x2048x24, .f32⟩
  | .hbm, ⟨28, _⟩ => ⟨S16x2048x512, .f32⟩
  | .hbm, ⟨29, _⟩ => ⟨S16x2048x512, .f32⟩
  | .hbm, ⟨30, _⟩ => ⟨S16x2048x512, .f32⟩
  | .hbm, ⟨31, _⟩ => ⟨S16x2048x1024, .f32⟩
  | .hbm, ⟨32, _⟩ => ⟨S16x2048x1024, .f32⟩
  | .hbm, ⟨33, _⟩ => ⟨S16x2048x2x64, .f32⟩
  | .hbm, ⟨34, _⟩ => ⟨S16x2x2048x64, .f32⟩
  | .hbm, ⟨35, _⟩ => ⟨S16x2048x2x64, .f32⟩
  | .hbm, ⟨36, _⟩ => ⟨S16x2x2048x64, .f32⟩
  | .hbm, ⟨37, _⟩ => ⟨S16x2048x2x64, .f32⟩
  | .hbm, ⟨38, _⟩ => ⟨S16x2x2048x64, .f32⟩
  | .hbm, ⟨39, _⟩ => ⟨S16x2048x2x64, .f32⟩
  | .hbm, ⟨40, _⟩ => ⟨S16x2x2048x64, .f32⟩
  | .hbm, ⟨41, _⟩ => ⟨S16x1x2x2048x64, .f32⟩
  | .hbm, ⟨42, _⟩ => ⟨S16x1x2x2048x64, .f32⟩
  | .hbm, ⟨43, _⟩ => ⟨S16x1x2x2048x64, .f32⟩
  | .hbm, ⟨44, _⟩ => ⟨S16x1x2x2048x64, .f32⟩
  | .hbm, ⟨45, _⟩ => ⟨S16x4x2x2048x64, .f32⟩
  | .hbm, ⟨46, _⟩ => ⟨S16x16x128x2x64, .f32⟩
  | .hbm, ⟨47, _⟩ => ⟨S16x2x16x64x128, .f32⟩
  | .hbm, ⟨48, _⟩ => ⟨S16x16x128x2x64, .f32⟩
  | .hbm, ⟨49, _⟩ => ⟨S16x2x16x64x128, .f32⟩
  | .hbm, ⟨50, _⟩ => ⟨S16x1x2x16x64x128, .f32⟩
  | .hbm, ⟨51, _⟩ => ⟨S16x1x2x16x64x128, .f32⟩
  | .hbm, ⟨52, _⟩ => ⟨S16x2x2x16x64x128, .f32⟩
  | .hbm, ⟨53, _⟩ => ⟨S16x2048x2x12, .f32⟩
  | .hbm, ⟨54, _⟩ => ⟨S_, .i32⟩
  | .hbm, ⟨55, _⟩ => ⟨S_, .f32⟩
  | .hbm, ⟨56, _⟩ => ⟨S16x2048x2x16, .f32⟩
  | .hbm, ⟨57, _⟩ => ⟨S16x2048x8x64, .f32⟩
  | .hbm, ⟨58, _⟩ => ⟨S16x8x2048x64, .f32⟩
  | .hbm, ⟨59, _⟩ => ⟨S16x2048x8x64, .f32⟩
  | .hbm, ⟨60, _⟩ => ⟨S16x8x2048x64, .f32⟩
  | .hbm, ⟨61, _⟩ => ⟨S16x8x64x2048, .f32⟩
  | .hbm, ⟨62, _⟩ => ⟨S16x2048x8x64, .f32⟩
  | .hbm, ⟨63, _⟩ => ⟨S16x8x2048x64, .f32⟩
  | .hbm, ⟨64, _⟩ => ⟨S16x8x64x2048, .f32⟩
  | .hbm, ⟨65, _⟩ => ⟨S16x16x128x8x64, .f32⟩
  | .hbm, ⟨66, _⟩ => ⟨S16x8x16x64x128, .f32⟩
  | .hbm, ⟨67, _⟩ => ⟨S16x2x16x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_c : Ref sig .tc := ⟨.hbm, 54, rfl⟩
abbrev main_call0_v0 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩

abbrev nD : Nat := 1
abbrev τ : Topo := Topo.v7x

variable {F : FTy → Type} [FloatOps F]
-- ==== Compress.lean ====
abbrev S16x4x2x2048x64 : Shape := ⟨5, ![16, 4, 2, 2048, 64]⟩
abbrev S2x32x64 : Shape := ⟨3, ![2, 32, 64]⟩
abbrev S2x2048x256 : Shape := ⟨3, ![2, 2048, 256]⟩
abbrev S2x256x64 : Shape := ⟨3, ![2, 256, 64]⟩
abbrev S64 : Shape := ⟨1, ![64]⟩
abbrev S1x256x64 : Shape := ⟨3, ![1, 256, 64]⟩
abbrev S256x64 : Shape := ⟨2, ![256, 64]⟩
abbrev S64x256 : Shape := ⟨2, ![64, 256]⟩
abbrev S1x64 : Shape := ⟨2, ![1, 64]⟩
abbrev S16x2x128x64 : Shape := ⟨4, ![16, 2, 128, 64]⟩
abbrev S16x2x64x128 : Shape := ⟨4, ![16, 2, 64, 128]⟩
abbrev S1x1x1x2048x64 : Shape := ⟨5, ![1, 1, 1, 2048, 64]⟩
abbrev S1x1x128x64 : Shape := ⟨4, ![1, 1, 128, 64]⟩
abbrev S1x1x64x128 : Shape := ⟨4, ![1, 1, 64, 128]⟩
abbrev S128x256 : Shape := ⟨2, ![128, 256]⟩
abbrev S1x1x1x128x64 : Shape := ⟨5, ![1, 1, 1, 128, 64]⟩
abbrev S128x64 : Shape := ⟨2, ![128, 64]⟩
abbrev S1x1x64 : Shape := ⟨3, ![1, 1, 64]⟩
abbrev S1x64x256 : Shape := ⟨3, ![1, 64, 256]⟩
abbrev S128 : Shape := ⟨1, ![128]⟩
abbrev S128x1 : Shape := ⟨2, ![128, 1]⟩
abbrev S64x128 : Shape := ⟨2, ![64, 128]⟩

abbrev nBuf : Space → Nat
  | .hbm => 16
  | .vmem => 13
  | .smem => 0
  | _ => 0

abbrev bufTy : (tb : Table) → Fin (tcTables nBuf tb) → BufTy
  | .hbm, ⟨0, _⟩ => ⟨S16x4x2x2048x64, .f32⟩
  | .hbm, ⟨1, _⟩ => ⟨S2x32x64, .f32⟩
  | .hbm, ⟨2, _⟩ => ⟨S2x2048x256, .f32⟩
  | .hbm, ⟨3, _⟩ => ⟨S2x256x64, .f32⟩
  | .hbm, ⟨4, _⟩ => ⟨S64, .f32⟩
  | .hbm, ⟨5, _⟩ => ⟨S2x2048x256, .bf16⟩
  | .hbm, ⟨6, _⟩ => ⟨S1x256x64, .f32⟩
  | .hbm, ⟨7, _⟩ => ⟨S256x64, .f32⟩
  | .hbm, ⟨8, _⟩ => ⟨S256x64, .bf16⟩
  | .hbm, ⟨9, _⟩ => ⟨S1x256x64, .f32⟩
  | .hbm, ⟨10, _⟩ => ⟨S256x64, .f32⟩
  | .hbm, ⟨11, _⟩ => ⟨S64x256, .f32⟩
  | .hbm, ⟨12, _⟩ => ⟨S64x256, .bf16⟩
  | .hbm, ⟨13, _⟩ => ⟨S1x64, .f32⟩
  | .hbm, ⟨14, _⟩ => ⟨S16x2x128x64, .f32⟩
  | .hbm, ⟨15, _⟩ => ⟨S16x2x64x128, .f32⟩
  | .local _ .vmem, ⟨0, _⟩ => ⟨S1x1x1x2048x64, .f32⟩
  | .local _ .vmem, ⟨1, _⟩ => ⟨S1x1x1x2048x64, .f32⟩
  | .local _ .vmem, ⟨2, _⟩ => ⟨S1x1x1x2048x64, .f32⟩
  | .local _ .vmem, ⟨3, _⟩ => ⟨S1x1x1x2048x64, .f32⟩
  | .local _ .vmem, ⟨4, _⟩ => ⟨S2x32x64, .f32⟩
  | .local _ .vmem, ⟨5, _⟩ => ⟨S2x2048x256, .bf16⟩
  | .local _ .vmem, ⟨6, _⟩ => ⟨S256x64, .bf16⟩
  | .local _ .vmem, ⟨7, _⟩ => ⟨S64x256, .bf16⟩
  | .local _ .vmem, ⟨8, _⟩ => ⟨S1x64, .f32⟩
  | .local _ .vmem, ⟨9, _⟩ => ⟨S1x1x128x64, .f32⟩
  | .local _ .vmem, ⟨10, _⟩ => ⟨S1x1x128x64, .f32⟩
  | .local _ .vmem, ⟨11, _⟩ => ⟨S1x1x64x128, .f32⟩
  | .local _ .vmem, ⟨12, _⟩ => ⟨S1x1x64x128, .f32⟩
  | _, _ => ⟨S16x4x2x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![16, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== CompressRefIdeal.lean ====
abbrev S16x4x2x2048x64 : Shape := ⟨5, ![16, 4, 2, 2048, 64]⟩
abbrev S2x32x64 : Shape := ⟨3, ![2, 32, 64]⟩
abbrev S2x2048x256 : Shape := ⟨3, ![2, 2048, 256]⟩
abbrev S2x256x64 : Shape := ⟨3, ![2, 256, 64]⟩
abbrev S64 : Shape := ⟨1, ![64]⟩
abbrev S16x1x2x2048x64 : Shape := ⟨5, ![16, 1, 2, 2048, 64]⟩
abbrev S16x2x2048x64 : Shape := ⟨4, ![16, 2, 2048, 64]⟩
abbrev S1x32x64 : Shape := ⟨3, ![1, 32, 64]⟩
abbrev S32x64 : Shape := ⟨2, ![32, 64]⟩
abbrev S1x2048x256 : Shape := ⟨3, ![1, 2048, 256]⟩
abbrev S2048x256 : Shape := ⟨2, ![2048, 256]⟩
abbrev S1x256x64 : Shape := ⟨3, ![1, 256, 64]⟩
abbrev S256x64 : Shape := ⟨2, ![256, 64]⟩
abbrev S16x2x128x16x64 : Shape := ⟨5, ![16, 2, 128, 16, 64]⟩
abbrev S16x2x127x16x64 : Shape := ⟨5, ![16, 2, 127, 16, 64]⟩
abbrev S16x2x127x32x64 : Shape := ⟨5, ![16, 2, 127, 32, 64]⟩
abbrev S1x1x1x32x64 : Shape := ⟨5, ![1, 1, 1, 32, 64]⟩
abbrev S16x2x127x2048 : Shape := ⟨4, ![16, 2, 127, 2048]⟩
abbrev S16x2x127x256 : Shape := ⟨4, ![16, 2, 127, 256]⟩
abbrev S_ : Shape := ⟨0, ![]⟩
abbrev S16x2x127x64 : Shape := ⟨4, ![16, 2, 127, 64]⟩
abbrev S16x2x127 : Shape := ⟨3, ![16, 2, 127]⟩
abbrev S16x2x127x1 : Shape := ⟨4, ![16, 2, 127, 1]⟩
abbrev S1x1x1x64 : Shape := ⟨4, ![1, 1, 1, 64]⟩
abbrev S16x2x128x64 : Shape := ⟨4, ![16, 2, 128, 64]⟩
abbrev S16x2x64x128 : Shape := ⟨4, ![16, 2, 64, 128]⟩

abbrev nBuf : Space → Nat
  | .hbm => 98
  | .vmem => 0
  | .smem => 0
  | _ => 0

abbrev bufTy : (tb : Table) → Fin (tcTables nBuf tb) → BufTy
  | .hbm, ⟨0, _⟩ => ⟨S16x4x2x2048x64, .f32⟩
  | .hbm, ⟨1, _⟩ => ⟨S2x32x64, .f32⟩
  | .hbm, ⟨2, _⟩ => ⟨S2x2048x256, .f32⟩
  | .hbm, ⟨3, _⟩ => ⟨S2x256x64, .f32⟩
  | .hbm, ⟨4, _⟩ => ⟨S64, .f32⟩
  | .hbm, ⟨5, _⟩ => ⟨S16x1x2x2048x64, .f32⟩
  | .hbm, ⟨6, _⟩ => ⟨S16x2x2048x64, .f32⟩
  | .hbm, ⟨7, _⟩ => ⟨S1x32x64, .f32⟩
  | .hbm, ⟨8, _⟩ => ⟨S32x64, .f32⟩
  | .hbm, ⟨9, _⟩ => ⟨S1x2048x256, .f32⟩
  | .hbm, ⟨10, _⟩ => ⟨S2048x256, .f32⟩
  | .hbm, ⟨11, _⟩ => ⟨S1x256x64, .f32⟩
  | .hbm, ⟨12, _⟩ => ⟨S256x64, .f32⟩
  | .hbm, ⟨13, _⟩ => ⟨S16x2x128x16x64, .f32⟩
  | .hbm, ⟨14, _⟩ => ⟨S16x2x127x16x64, .f32⟩
  | .hbm, ⟨15, _⟩ => ⟨S16x2x127x16x64, .f32⟩
  | .hbm, ⟨16, _⟩ => ⟨S16x2x127x32x64, .f32⟩
  | .hbm, ⟨17, _⟩ => ⟨S1x1x1x32x64, .f32⟩
  | .hbm, ⟨18, _⟩ => ⟨S16x2x127x32x64, .f32⟩
  | .hbm, ⟨19, _⟩ => ⟨S16x2x127x32x64, .f32⟩
  | .hbm, ⟨20, _⟩ => ⟨S16x2x127x2048, .f32⟩
  | .hbm, ⟨21, _⟩ => ⟨S16x2x127x256, .f32⟩
  | .hbm, ⟨22, _⟩ => ⟨S16x2x127x256, .f32⟩
  | .hbm, ⟨23, _⟩ => ⟨S16x2x127x256, .f32⟩
  | .hbm, ⟨24, _⟩ => ⟨S_, .f32⟩
  | .hbm, ⟨25, _⟩ => ⟨S16x2x127x256, .f32⟩
  | .hbm, ⟨26, _⟩ => ⟨S16x2x127x256, .f32⟩
  | .hbm, ⟨27, _⟩ => ⟨S16x2x127x256, .f32⟩
  | .hbm, ⟨28, _⟩ => ⟨S_, .f32⟩
  | .hbm, ⟨29, _⟩ => ⟨S16x2x127x256, .f32⟩
  | .hbm, ⟨30, _⟩ => ⟨S16x2x127x256, .f32⟩
  | .hbm, ⟨31, _⟩ => ⟨S16x2x127x256, .f32⟩
  | .hbm, ⟨32, _⟩ => ⟨S_, .f32⟩
  | .hbm, ⟨33, _⟩ => ⟨S16x2x127x256, .f32⟩
  | .hbm, ⟨34, _⟩ => ⟨S16x2x127x256, .f32⟩
  | .hbm, ⟨35, _⟩ => ⟨S_, .f32⟩
  | .hbm, ⟨36, _⟩ => ⟨S16x2x127x256, .f32⟩
  | .hbm, ⟨37, _⟩ => ⟨S16x2x127x256, .f32⟩
  | .hbm, ⟨38, _⟩ => ⟨S16x2x127x256, .f32⟩
  | .hbm, ⟨39, _⟩ => ⟨S16x2x127x64, .f32⟩
  | .hbm, ⟨40, _⟩ => ⟨S16x2x127x64, .f32⟩
  | .hbm, ⟨41, _⟩ => ⟨S_, .f32⟩
  | .hbm, ⟨42, _⟩ => ⟨S16x2x127, .f32⟩
  | .hbm, ⟨43, _⟩ => ⟨S16x2x127x1, .f32⟩
  | .hbm, ⟨44, _⟩ => ⟨S_, .f32⟩
  | .hbm, ⟨45, _⟩ => ⟨S16x2x127x1, .f32⟩
  | .hbm, ⟨46, _⟩ => ⟨S16x2x127x1, .f32⟩
  | .hbm, ⟨47, _⟩ => ⟨S_, .f32⟩
  | .hbm, ⟨48, _⟩ => ⟨S16x2x127x1, .f32⟩
  | .hbm, ⟨49, _⟩ => ⟨S16x2x127x1, .f32⟩
  | .hbm, ⟨50, _⟩ => ⟨S16x2x127x1, .f32⟩
  | .hbm, ⟨51, _⟩ => ⟨S16x2x127x64, .f32⟩
  | .hbm, ⟨52, _⟩ => ⟨S16x2x127x64, .f32⟩
  | .hbm, ⟨53, _⟩ => ⟨S1x1x1x64, .f32⟩
  | .hbm, ⟨54, _⟩ => ⟨S16x2x127x64, .f32⟩
  | .hbm, ⟨55, _⟩ => ⟨S16x2x127x64, .f32⟩
  | .hbm, ⟨56, _⟩ => ⟨S16x1x2x2048x64, .f32⟩
  | .hbm, ⟨57, _⟩ => ⟨S16x2x2048x64, .f32⟩
  | .hbm, ⟨58, _⟩ => ⟨S1x32x64, .f32⟩
  | .hbm, ⟨59, _⟩ => ⟨S32x64, .f32⟩
  | .hbm, ⟨60, _⟩ => ⟨S1x2048x256, .f32⟩
  | .hbm, ⟨61, _⟩ => ⟨S2048x256, .f32⟩
  | .hbm, ⟨62, _⟩ => ⟨S1x256x64, .f32⟩
  | .hbm, ⟨63, _⟩ => ⟨S256x64, .f32⟩
  | .hbm, ⟨64, _⟩ => ⟨S16x2x128x16x64, .f32⟩
  | .hbm, ⟨65, _⟩ => ⟨S16x2x127x16x64, .f32⟩
  | .hbm, ⟨66, _⟩ => ⟨S16x2x127x16x64, .f32⟩
  | .hbm, ⟨67, _⟩ => ⟨S16x2x127x32x64, .f32⟩
  | .hbm, ⟨68, _⟩ => ⟨S1x1x1x32x64, .f32⟩
  | .hbm, ⟨69, _⟩ => ⟨S16x2x127x32x64, .f32⟩
  | .hbm, ⟨70, _⟩ => ⟨S16x2x127x32x64, .f32⟩
  | .hbm, ⟨71, _⟩ => ⟨S16x2x127x2048, .f32⟩
  | .hbm, ⟨72, _⟩ => ⟨S16x2x127x256, .f32⟩
  | .hbm, ⟨73, _⟩ => ⟨S16x2x127x256, .f32⟩
  | .hbm, ⟨74, _⟩ => ⟨S16x2x127x256, .f32⟩
  | .hbm, ⟨75, _⟩ => ⟨S_, .f32⟩
  | .hbm, ⟨76, _⟩ => ⟨S16x2x127x256, .f32⟩
  | .hbm, ⟨77, _⟩ => ⟨S16x2x127x256, .f32⟩
  | .hbm, ⟨78, _⟩ => ⟨S16x2x127x256, .f32⟩
  | .hbm, ⟨79, _⟩ => ⟨S_, .f32⟩
  | .hbm, ⟨80, _⟩ => ⟨S16x2x127x256, .f32⟩
  | .hbm, ⟨81, _⟩ => ⟨S16x2x127x256, .f32⟩
  | .hbm, ⟨82, _⟩ => ⟨S16x2x127x256, .f32⟩
  | .hbm, ⟨83, _⟩ => ⟨S_, .f32⟩
  | .hbm, ⟨84, _⟩ => ⟨S16x2x127x256, .f32⟩
  | .hbm, ⟨85, _⟩ => ⟨S16x2x127x256, .f32⟩
  | .hbm, ⟨86, _⟩ => ⟨S_, .f32⟩
  | .hbm, ⟨87, _⟩ => ⟨S16x2x127x256, .f32⟩
  | .hbm, ⟨88, _⟩ => ⟨S16x2x127x256, .f32⟩
  | .hbm, ⟨89, _⟩ => ⟨S16x2x127x256, .f32⟩
  | .hbm, ⟨90, _⟩ => ⟨S16x2x127x64, .f32⟩
  | .hbm, ⟨91, _⟩ => ⟨S_, .i32⟩
  | .hbm, ⟨92, _⟩ => ⟨S_, .f32⟩
  | .hbm, ⟨93, _⟩ => ⟨S16x2x128x64, .f32⟩
  | .hbm, ⟨94, _⟩ => ⟨S_, .i32⟩
  | .hbm, ⟨95, _⟩ => ⟨S_, .f32⟩
  | .hbm, ⟨96, _⟩ => ⟨S16x2x128x64, .f32⟩
  | .hbm, ⟨97, _⟩ => ⟨S16x2x64x128, .f32⟩
  | _, _ => ⟨S16x4x2x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_6 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_7 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_8 : Ref sig .tc := ⟨.hbm, 83, rfl⟩
abbrev main_v69 : Ref sig .tc := ⟨.hbm, 84, rfl⟩
abbrev main_v70 : Ref sig .tc := ⟨.hbm, 85, rfl⟩
abbrev main_cst_9 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_c : Ref sig .tc := ⟨.hbm, 91, rfl⟩
abbrev main_call0_v0 : Ref sig .tc := ⟨.hbm, 92, rfl⟩
abbrev main_v75 : Ref sig .tc := ⟨.hbm, 93, rfl⟩
abbrev main_c_10 : Ref sig .tc := ⟨.hbm, 94, rfl⟩
abbrev main_call1_v0 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== Moba.lean ====
abbrev S8x4 : Shape := ⟨2, ![8, 4]⟩
abbrev S16x2048x512 : Shape := ⟨3, ![16, 2048, 512]⟩
abbrev S2x64 : Shape := ⟨2, ![2, 64]⟩
abbrev S16x2048x8x64 : Shape := ⟨4, ![16, 2048, 8, 64]⟩
abbrev S16x8x64x2048 : Shape := ⟨4, ![16, 8, 64, 2048]⟩
abbrev S16x8x2048x64 : Shape := ⟨4, ![16, 8, 2048, 64]⟩
abbrev S16x16x128x8x64 : Shape := ⟨5, ![16, 16, 128, 8, 64]⟩
abbrev S16x8x16x64x128 : Shape := ⟨5, ![16, 8, 16, 64, 128]⟩
abbrev S64x2 : Shape := ⟨2, ![64, 2]⟩
abbrev S2048x64 : Shape := ⟨2, ![2048, 64]⟩
abbrev S_ : Shape := ⟨0, ![]⟩
abbrev S1x4x64x256 : Shape := ⟨4, ![1, 4, 64, 256]⟩
abbrev S1x4x2048x64 : Shape := ⟨4, ![1, 4, 2048, 64]⟩
abbrev S1x4x16x64x128 : Shape := ⟨5, ![1, 4, 16, 64, 128]⟩
abbrev S1x256x256 : Shape := ⟨3, ![1, 256, 256]⟩
abbrev S4x2048x128 : Shape := ⟨3, ![4, 2048, 128]⟩
abbrev S4x16x64x128 : Shape := ⟨4, ![4, 16, 64, 128]⟩
abbrev S4x8x64 : Shape := ⟨3, ![4, 8, 64]⟩
abbrev S256x256 : Shape := ⟨2, ![256, 256]⟩
abbrev S4x2048x256 : Shape := ⟨3, ![4, 2048, 256]⟩
abbrev S1x1x2048x64 : Shape := ⟨4, ![1, 1, 2048, 64]⟩
abbrev S1x64 : Shape := ⟨2, ![1, 64]⟩
abbrev S2048 : Shape := ⟨1, ![2048]⟩
abbrev S2048x1 : Shape := ⟨2, ![2048, 1]⟩
abbrev S2048x128 : Shape := ⟨2, ![2048, 128]⟩
abbrev S1x2048x128 : Shape := ⟨3, ![1, 2048, 128]⟩
abbrev S1x1x16x64x128 : Shape := ⟨5, ![1, 1, 16, 64, 128]⟩
abbrev S16x64x128 : Shape := ⟨3, ![16, 64, 128]⟩
abbrev S1x16x64x128 : Shape := ⟨4, ![1, 16, 64, 128]⟩
abbrev S256x64 : Shape := ⟨2, ![256, 64]⟩
abbrev S64 : Shape := ⟨1, ![64]⟩
abbrev S1x1x64 : Shape := ⟨3, ![1, 1, 64]⟩
abbrev S1x1 : Shape := ⟨2, ![1, 1]⟩
abbrev S1x1x64x256 : Shape := ⟨4, ![1, 1, 64, 256]⟩
abbrev S64x256 : Shape := ⟨2, ![64, 256]⟩
abbrev S64x1 : Shape := ⟨2, ![64, 1]⟩
abbrev S256 : Shape := ⟨1, ![256]⟩
abbrev S1x256 : Shape := ⟨2, ![1, 256]⟩
abbrev S32x256 : Shape := ⟨2, ![32, 256]⟩
abbrev S8x256 : Shape := ⟨2, ![8, 256]⟩
abbrev S24x256 : Shape := ⟨2, ![24, 256]⟩
abbrev S128x256 : Shape := ⟨2, ![128, 256]⟩
abbrev S1x256x128 : Shape := ⟨3, ![1, 256, 128]⟩
abbrev S256x128 : Shape := ⟨2, ![256, 128]⟩
abbrev S1x2048x256 : Shape := ⟨3, ![1, 2048, 256]⟩
abbrev S2048x256 : Shape := ⟨2, ![2048, 256]⟩
abbrev S1x1x64x128 : Shape := ⟨4, ![1, 1, 64, 128]⟩
abbrev S64x128 : Shape := ⟨2, ![64, 128]⟩
abbrev S1x8x64 : Shape := ⟨3, ![1, 8, 64]⟩
abbrev S8x64 : Shape := ⟨2, ![8, 64]⟩

abbrev nBuf : Space → Nat
  | .hbm => 83
  | .vmem => 18
  | .smem => 1
  | _ => 0

abbrev bufTy : (tb : Table) → Fin (tcTables nBuf tb) → BufTy
  | .hbm, ⟨0, _⟩ => ⟨S8x4, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S2x64, .f32⟩
  | .hbm, ⟨5, _⟩ => ⟨S16x2048x8x64, .f32⟩
  | .hbm, ⟨6, _⟩ => ⟨S16x8x64x2048, .f32⟩
  | .hbm, ⟨7, _⟩ => ⟨S16x2048x8x64, .f32⟩
  | .hbm, ⟨8, _⟩ => ⟨S16x8x2048x64, .f32⟩
  | .hbm, ⟨9, _⟩ => ⟨S16x16x128x8x64, .f32⟩
  | .hbm, ⟨10, _⟩ => ⟨S16x8x16x64x128, .f32⟩
  | .hbm, ⟨11, _⟩ => ⟨S64x2, .f32⟩
  | .hbm, ⟨12, _⟩ => ⟨S2048x64, .i32⟩
  | .hbm, ⟨13, _⟩ => ⟨S2048x64, .i32⟩
  | .hbm, ⟨14, _⟩ => ⟨S_, .i32⟩
  | .hbm, ⟨15, _⟩ => ⟨S2048x64, .i32⟩
  | .hbm, ⟨16, _⟩ => ⟨S2048x64, .i32⟩
  | .hbm, ⟨17, _⟩ => ⟨S_, .i32⟩
  | .hbm, ⟨18, _⟩ => ⟨S2048x64, .i32⟩
  | .hbm, ⟨19, _⟩ => ⟨S2048x64, .i32⟩
  | .hbm, ⟨20, _⟩ => ⟨S_, .i32⟩
  | .hbm, ⟨21, _⟩ => ⟨S2048x64, .i32⟩
  | .hbm, ⟨22, _⟩ => ⟨S2048x64, .i32⟩
  | .hbm, ⟨23, _⟩ => ⟨S_, .i32⟩
  | .hbm, ⟨24, _⟩ => ⟨S2048x64, .i32⟩
  | .hbm, ⟨25, _⟩ => ⟨S2048x64, .i1⟩
  | .hbm, ⟨26, _⟩ => ⟨S_, .i32⟩
  | .hbm, ⟨27, _⟩ => ⟨S2048x64, .i32⟩
  | .hbm, ⟨28, _⟩ => ⟨S2048x64, .i1⟩
  | .hbm, ⟨29, _⟩ => ⟨S2048x64, .i1⟩
  | .hbm, ⟨30, _⟩ => ⟨S_, .i32⟩
  | .hbm, ⟨31, _⟩ => ⟨S2048x64, .i32⟩
  | .hbm, ⟨32, _⟩ => ⟨S2048x64, .i1⟩
  | .hbm, ⟨33, _⟩ => ⟨S_, .i32⟩
  | .hbm, ⟨34, _⟩ => ⟨S2048x64, .i32⟩
  | .hbm, ⟨35, _⟩ => ⟨S2048x64, .i1⟩
  | .hbm, ⟨36, _⟩ => ⟨S2048x64, .i1⟩
  | .hbm, ⟨37, _⟩ => ⟨S_, .i32⟩
  | .hbm, ⟨38, _⟩ => ⟨S_, .i32⟩
  | .hbm, ⟨39, _⟩ => ⟨S2048x64, .i32⟩
  | .hbm, ⟨40, _⟩ => ⟨S2048x64, .i32⟩
  | .hbm, ⟨41, _⟩ => ⟨S2048x64, .i32⟩
  | .hbm, ⟨42, _⟩ => ⟨S_, .i32⟩
  | .hbm, ⟨43, _⟩ => ⟨S2048x64, .i32⟩
  | .hbm, ⟨44, _⟩ => ⟨S2048x64, .i32⟩
  | .hbm, ⟨45, _⟩ => ⟨S2048x64, .i1⟩
  | .hbm, ⟨46, _⟩ => ⟨S_, .i32⟩
  | .hbm, ⟨47, _⟩ => ⟨S_, .i32⟩
  | .hbm, ⟨48, _⟩ => ⟨S2048x64, .i32⟩
  | .hbm, ⟨49, _⟩ => ⟨S2048x64, .i32⟩
  | .hbm, ⟨50, _⟩ => ⟨S2048x64, .f32⟩
  | .hbm, ⟨51, _⟩ => ⟨S2048x64, .i32⟩
  | .hbm, ⟨52, _⟩ => ⟨S2048x64, .i32⟩
  | .hbm, ⟨53, _⟩ => ⟨S_, .i32⟩
  | .hbm, ⟨54, _⟩ => ⟨S2048x64, .i32⟩
  | .hbm, ⟨55, _⟩ => ⟨S2048x64, .i32⟩
  | .hbm, ⟨56, _⟩ => ⟨S_, .i32⟩
  | .hbm, ⟨57, _⟩ => ⟨S2048x64, .i32⟩
  | .hbm, ⟨58, _⟩ => ⟨S2048x64, .i32⟩
  | .hbm, ⟨59, _⟩ => ⟨S_, .i32⟩
  | .hbm, ⟨60, _⟩ => ⟨S2048x64, .i32⟩
  | .hbm, ⟨61, _⟩ => ⟨S2048x64, .i32⟩
  | .hbm, ⟨62, _⟩ => ⟨S_, .i32⟩
  | .hbm, ⟨63, _⟩ => ⟨S2048x64, .i32⟩
  | .hbm, ⟨64, _⟩ => ⟨S2048x64, .i1⟩
  | .hbm, ⟨65, _⟩ => ⟨S_, .i32⟩
  | .hbm, ⟨66, _⟩ => ⟨S2048x64, .i32⟩
  | .hbm, ⟨67, _⟩ => ⟨S2048x64, .i1⟩
  | .hbm, ⟨68, _⟩ => ⟨S2048x64, .i1⟩
  | .hbm, ⟨69, _⟩ => ⟨S_, .i32⟩
  | .hbm, ⟨70, _⟩ => ⟨S2048x64, .i32⟩
  | .hbm, ⟨71, _⟩ => ⟨S2048x64, .i1⟩
  | .hbm, ⟨72, _⟩ => ⟨S_, .i32⟩
  | .hbm, ⟨73, _⟩ => ⟨S2048x64, .i32⟩
  | .hbm, ⟨74, _⟩ => ⟨S2048x64, .i1⟩
  | .hbm, ⟨75, _⟩ => ⟨S2048x64, .i1⟩
  | .hbm, ⟨76, _⟩ => ⟨S_, .i32⟩
  | .hbm, ⟨77, _⟩ => ⟨S_, .i32⟩
  | .hbm, ⟨78, _⟩ => ⟨S2048x64, .i32⟩
  | .hbm, ⟨79, _⟩ => ⟨S2048x64, .i32⟩
  | .hbm, ⟨80, _⟩ => ⟨S2048x64, .i32⟩
  | .hbm, ⟨81, _⟩ => ⟨S2048x64, .f32⟩
  | .hbm, ⟨82, _⟩ => ⟨S16x2048x512, .bf16⟩
  | .local _ .vmem, ⟨0, _⟩ => ⟨S1x4x64x256, .f32⟩
  | .local _ .vmem, ⟨1, _⟩ => ⟨S1x4x64x256, .f32⟩
  | .local _ .vmem, ⟨2, _⟩ => ⟨S1x4x2048x64, .f32⟩
  | .local _ .vmem, ⟨3, _⟩ => ⟨S1x4x2048x64, .f32⟩
  | .local _ .vmem, ⟨4, _⟩ => ⟨S1x4x16x64x128, .f32⟩
  | .local _ .vmem, ⟨5, _⟩ => ⟨S1x4x16x64x128, .f32⟩
  | .local _ .vmem, ⟨6, _⟩ => ⟨S2x64, .f32⟩
  | .local _ .vmem, ⟨7, _⟩ => ⟨S64x2, .f32⟩
  | .local _ .vmem, ⟨8, _⟩ => ⟨S2048x64, .f32⟩
  | .local _ .vmem, ⟨9, _⟩ => ⟨S2048x64, .f32⟩
  | .local _ .vmem, ⟨10, _⟩ => ⟨S1x256x256, .bf16⟩
  | .local _ .vmem, ⟨11, _⟩ => ⟨S1x256x256, .bf16⟩
  | .local _ .vmem, ⟨12, _⟩ => ⟨S4x2048x128, .bf16⟩
  | .local _ .vmem, ⟨13, _⟩ => ⟨S4x2048x128, .bf16⟩
  | .local _ .vmem, ⟨14, _⟩ => ⟨S4x16x64x128, .bf16⟩
  | .local _ .vmem, ⟨15, _⟩ => ⟨S4x8x64, .f32⟩
  | .local _ .vmem, ⟨16, _⟩ => ⟨S256x256, .f32⟩
  | .local _ .vmem, ⟨17, _⟩ => ⟨S4x2048x256, .f32⟩
  | .local _ .smem, ⟨0, _⟩ => ⟨S8x4, .f32⟩
  | _, _ => ⟨S8x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_call0_v0 : Ref sig .tc := ⟨.hbm, 38, rfl⟩
abbrev main_call0_v1 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_call2_v0 : Ref sig .tc := ⟨.hbm, 47, rfl⟩
abbrev main_call2_v1 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_9 : Ref sig .tc := ⟨.hbm, 53, rfl⟩
abbrev main_v34 : Ref sig .tc := ⟨.hbm, 54, rfl⟩
abbrev main_v35 : Ref sig .tc := ⟨.hbm, 55, rfl⟩
abbrev main_c_10 : Ref sig .tc := ⟨.hbm, 56, rfl⟩
abbrev main_v36 : Ref sig .tc := ⟨.hbm, 57, rfl⟩
abbrev main_v37 : Ref sig .tc := ⟨.hbm, 58, rfl⟩
abbrev main_c_11 : Ref sig .tc := ⟨.hbm, 59, rfl⟩
abbrev main_v38 : Ref sig .tc := ⟨.hbm, 60, rfl⟩
abbrev main_v39 : Ref sig .tc := ⟨.hbm, 61, rfl⟩
abbrev main_c_12 : Ref sig .tc := ⟨.hbm, 62, rfl⟩
abbrev main_v40 : Ref sig .tc := ⟨.hbm, 63, rfl⟩
abbrev main_v41 : Ref sig .tc := ⟨.hbm, 64, rfl⟩
abbrev main_c_13 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_14 : Ref sig .tc := ⟨.hbm, 69, rfl⟩
abbrev main_v45 : Ref sig .tc := ⟨.hbm, 70, rfl⟩
abbrev main_v46 : Ref sig .tc := ⟨.hbm, 71, rfl⟩
abbrev main_c_15 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_16 : Ref sig .tc := ⟨.hbm, 76, rfl⟩
abbrev main_call3_v0 : Ref sig .tc := ⟨.hbm, 77, rfl⟩
abbrev main_call3_v1 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![16, 2, 8], ![false, false, false]⟩

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let v4 : BitVec 32 := Scalar.extui v3
  let c0_i32_2 : BitVec 32 := 0#32
  let v5 : BitVec 1 := Scalar.cmpi .ne v4 c0_i32_2
  v5

def k0_off1 (i : grid0.Coords) (c0_i32_11 : BitVec 32) : Fin 2 → Nat :=
  let arg1 : BitVec 32 := BitVec.ofNat 32 (i 1).val
  let c4_i32_10 : BitVec 32 := 4#32
  let v27 : BitVec 32 := Scalar.muli arg1 c4_i32_10
  let v28 : BitVec 32 := Scalar.addi v27 c0_i32_11
  let v29 : Index := Scalar.indexCast v28
  let c0 : Index := 0#32
  ![v29.toNat, 0]
def k0_off2 (i : grid0.Coords) (c0_i32_13 : BitVec 32) : Fin 2 → Nat :=
  let arg1 : BitVec 32 := BitVec.ofNat 32 (i 1).val
  let c4_i32_12 : BitVec 32 := 4#32
  let v31 : BitVec 32 := Scalar.muli arg1 c4_i32_12
  let v32 : BitVec 32 := Scalar.addi v31 c0_i32_13
  let v33 : Index := Scalar.indexCast v32
  let c1 : Index := 1#32
  ![v33.toNat, 1]
def k0_off3 (i : grid0.Coords) (c0_i32_15 : BitVec 32) : Fin 2 → Nat :=
  let arg1 : BitVec 32 := BitVec.ofNat 32 (i 1).val
  let c4_i32_14 : BitVec 32 := 4#32
  let v35 : BitVec 32 := Scalar.muli arg1 c4_i32_14
  let v36 : BitVec 32 := Scalar.addi v35 c0_i32_15
  let v37 : Index := Scalar.indexCast v36
  let c2 : Index := 2#32
  ![v37.toNat, 2]
def k0_off4 (i : grid0.Coords) (c0_i32_17 : BitVec 32) : Fin 2 → Nat :=
  let arg1 : BitVec 32 := BitVec.ofNat 32 (i 1).val
  let c4_i32_16 : BitVec 32 := 4#32
  let v39 : BitVec 32 := Scalar.muli arg1 c4_i32_16
  let v40 : BitVec 32 := Scalar.addi v39 c0_i32_17
  let v41 : Index := Scalar.indexCast v40
  let c3 : Index := 3#32
  ![v41.toNat, 3]
def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def k0_off5 (i : grid0.Coords) (c0_i32_11 : BitVec 32) : Fin 2 → Nat :=
  let arg1 : BitVec 32 := BitVec.ofNat 32 (i 1).val
  let c4_i32_10 : BitVec 32 := 4#32
  let v27 : BitVec 32 := Scalar.muli arg1 c4_i32_10
  let v28 : BitVec 32 := Scalar.addi v27 c0_i32_11
  let v29 : Index := Scalar.indexCast v28
  let c0 : Index := 0#32
  ![v29.toNat, 0]
def k0_off6 (i : grid0.Coords) (c0_i32_13 : BitVec 32) : Fin 2 → Nat :=
  let arg1 : BitVec 32 := BitVec.ofNat 32 (i 1).val
  let c4_i32_12 : BitVec 32 := 4#32
  let v31 : BitVec 32 := Scalar.muli arg1 c4_i32_12
  let v32 : BitVec 32 := Scalar.addi v31 c0_i32_13
  let v33 : Index := Scalar.indexCast v32
  let c1 : Index := 1#32
  ![v33.toNat, 1]
def k0_off7 (i : grid0.Coords) (c0_i32_15 : BitVec 32) : Fin 2 → Nat :=
  let arg1 : BitVec 32 := BitVec.ofNat 32 (i 1).val
  let c4_i32_14 : BitVec 32 := 4#32
  let v35 : BitVec 32 := Scalar.muli arg1 c4_i32_14
  let v36 : BitVec 32 := Scalar.addi v35 c0_i32_15
  let v37 : Index := Scalar.indexCast v36
  let c2 : Index := 2#32
  ![v37.toNat, 2]
def k0_off8 (i : grid0.Coords) (c0_i32_17 : BitVec 32) : Fin 2 → Nat :=
  let arg1 : BitVec 32 := BitVec.ofNat 32 (i 1).val
  let c4_i32_16 : BitVec 32 := 4#32
  let v39 : BitVec 32 := Scalar.muli arg1 c4_i32_16
  let v40 : BitVec 32 := Scalar.addi v39 c0_i32_17
  let v41 : Index := Scalar.indexCast v40
  let c3 : Index := 3#32
  ![v41.toNat, 3]
def k0_cond4 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_4 : BitVec 32 := 0#32
  let v11 : BitVec 1 := Scalar.cmpi .ne v10 c0_i32_4
  v11

def k0_off9 (i : grid0.Coords) (c0_i32_11 : BitVec 32) : Fin 2 → Nat :=
  let arg1 : BitVec 32 := BitVec.ofNat 32 (i 1).val
  let c4_i32_10 : BitVec 32 := 4#32
  let v27 : BitVec 32 := Scalar.muli arg1 c4_i32_10
  let v28 : BitVec 32 := Scalar.addi v27 c0_i32_11
  let v29 : Index := Scalar.indexCast v28
  let c0 : Index := 0#32
  ![v29.toNat, 0]
def k0_off10 (i : grid0.Coords) (c0_i32_13 : BitVec 32) : Fin 2 → Nat :=
  let arg1 : BitVec 32 := BitVec.ofNat 32 (i 1).val
  let c4_i32_12 : BitVec 32 := 4#32
  let v31 : BitVec 32 := Scalar.muli arg1 c4_i32_12
  let v32 : BitVec 32 := Scalar.addi v31 c0_i32_13
  let v33 : Index := Scalar.indexCast v32
  let c1 : Index := 1#32
  ![v33.toNat, 1]
def k0_off11 (i : grid0.Coords) (c0_i32_15 : BitVec 32) : Fin 2 → Nat :=
  let arg1 : BitVec 32 := BitVec.ofNat 32 (i 1).val
  let c4_i32_14 : BitVec 32 := 4#32
  let v35 : BitVec 32 := Scalar.muli arg1 c4_i32_14
  let v36 : BitVec 32 := Scalar.addi v35 c0_i32_15
  let v37 : Index := Scalar.indexCast v36
  let c2 : Index := 2#32
  ![v37.toNat, 2]
def k0_off12 (i : grid0.Coords) (c0_i32_17 : BitVec 32) : Fin 2 → Nat :=
  let arg1 : BitVec 32 := BitVec.ofNat 32 (i 1).val
  let c4_i32_16 : BitVec 32 := 4#32
  let v39 : BitVec 32 := Scalar.muli arg1 c4_i32_16
  let v40 : BitVec 32 := Scalar.addi v39 c0_i32_17
  let v41 : Index := Scalar.indexCast v40
  let c3 : Index := 3#32
  ![v41.toNat, 3]
def k0_cond5 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_5 : BitVec 32 := 0#32
  let v14 : BitVec 1 := Scalar.cmpi .ne v13 c0_i32_5
  v14

def k0_off13 (i : grid0.Coords) (c0_i32_11 : BitVec 32) : Fin 2 → Nat :=
  let arg1 : BitVec 32 := BitVec.ofNat 32 (i 1).val
  let c4_i32_10 : BitVec 32 := 4#32
  let v27 : BitVec 32 := Scalar.muli arg1 c4_i32_10
  let v28 : BitVec 32 := Scalar.addi v27 c0_i32_11
  let v29 : Index := Scalar.indexCast v28
  let c0 : Index := 0#32
  ![v29.toNat, 0]
def k0_off14 (i : grid0.Coords) (c0_i32_13 : BitVec 32) : Fin 2 → Nat :=
  let arg1 : BitVec 32 := BitVec.ofNat 32 (i 1).val
  let c4_i32_12 : BitVec 32 := 4#32
  let v31 : BitVec 32 := Scalar.muli arg1 c4_i32_12
  let v32 : BitVec 32 := Scalar.addi v31 c0_i32_13
  let v33 : Index := Scalar.indexCast v32
  let c1 : Index := 1#32
  ![v33.toNat, 1]
def k0_off15 (i : grid0.Coords) (c0_i32_15 : BitVec 32) : Fin 2 → Nat :=
  let arg1 : BitVec 32 := BitVec.ofNat 32 (i 1).val
  let c4_i32_14 : BitVec 32 := 4#32
  let v35 : BitVec 32 := Scalar.muli arg1 c4_i32_14
  let v36 : BitVec 32 := Scalar.addi v35 c0_i32_15
  let v37 : Index := Scalar.indexCast v36
  let c2 : Index := 2#32
  ![v37.toNat, 2]
def k0_off16 (i : grid0.Coords) (c0_i32_17 : BitVec 32) : Fin 2 → Nat :=
  let arg1 : BitVec 32 := BitVec.ofNat 32 (i 1).val
  let c4_i32_16 : BitVec 32 := 4#32
  let v39 : BitVec 32 := Scalar.muli arg1 c4_i32_16
  let v40 : BitVec 32 := Scalar.addi v39 c0_i32_17
  let v41 : Index := Scalar.indexCast v40
  let c3 : Index := 3#32
  ![v41.toNat, 3]
def k0_cond6 (i : grid0.Coords) : BitVec 1 :=
  let arg2 : BitVec 32 := BitVec.ofNat 32 (i 2).val
  let c4_i32 : BitVec 32 := 4#32
  let v15 : BitVec 1 := Scalar.cmpi .eq arg2 c4_i32
  let v16 : BitVec 32 := Scalar.extui v15
  let c0_i32_6 : BitVec 32 := 0#32
  let v17 : BitVec 1 := Scalar.cmpi .ne v16 c0_i32_6
  v17

def k0_off17 (i : grid0.Coords) (c0_i32_11 : BitVec 32) : Fin 2 → Nat :=
  let arg1 : BitVec 32 := BitVec.ofNat 32 (i 1).val
  let c4_i32_10 : BitVec 32 := 4#32
  let v27 : BitVec 32 := Scalar.muli arg1 c4_i32_10
  let v28 : BitVec 32 := Scalar.addi v27 c0_i32_11
  let v29 : Index := Scalar.indexCast v28
  let c0 : Index := 0#32
  ![v29.toNat, 0]
def k0_off18 (i : grid0.Coords) (c0_i32_13 : BitVec 32) : Fin 2 → Nat :=
  let arg1 : BitVec 32 := BitVec.ofNat 32 (i 1).val
  let c4_i32_12 : BitVec 32 := 4#32
  let v31 : BitVec 32 := Scalar.muli arg1 c4_i32_12
  let v32 : BitVec 32 := Scalar.addi v31 c0_i32_13
  let v33 : Index := Scalar.indexCast v32
  let c1 : Index := 1#32
  ![v33.toNat, 1]
def k0_off19 (i : grid0.Coords) (c0_i32_15 : BitVec 32) : Fin 2 → Nat :=
  let arg1 : BitVec 32 := BitVec.ofNat 32 (i 1).val
  let c4_i32_14 : BitVec 32 := 4#32
  let v35 : BitVec 32 := Scalar.muli arg1 c4_i32_14
  let v36 : BitVec 32 := Scalar.addi v35 c0_i32_15
  let v37 : Index := Scalar.indexCast v36
  let c2 : Index := 2#32
  ![v37.toNat, 2]
def k0_off20 (i : grid0.Coords) (c0_i32_17 : BitVec 32) : Fin 2 → Nat :=
  let arg1 : BitVec 32 := BitVec.ofNat 32 (i 1).val
  let c4_i32_16 : BitVec 32 := 4#32
  let v39 : BitVec 32 := Scalar.muli arg1 c4_i32_16
  let v40 : BitVec 32 := Scalar.addi v39 c0_i32_17
  let v41 : Index := Scalar.indexCast v40
  let c3 : Index := 3#32
  ![v41.toNat, 3]
def k0_cond7 (i : grid0.Coords) : BitVec 1 :=
  let arg2 : BitVec 32 := BitVec.ofNat 32 (i 2).val
  let c5_i32 : BitVec 32 := 5#32
  let v18 : BitVec 1 := Scalar.cmpi .eq arg2 c5_i32
  let v19 : BitVec 32 := Scalar.extui v18
  let c0_i32_7 : BitVec 32 := 0#32
  let v20 : BitVec 1 := Scalar.cmpi .ne v19 c0_i32_7
  v20

def k0_off21 (i : grid0.Coords) (c0_i32_11 : BitVec 32) : Fin 2 → Nat :=
  let arg1 : BitVec 32 := BitVec.ofNat 32 (i 1).val
  let c4_i32_10 : BitVec 32 := 4#32
  let v27 : BitVec 32 := Scalar.muli arg1 c4_i32_10
  let v28 : BitVec 32 := Scalar.addi v27 c0_i32_11
  let v29 : Index := Scalar.indexCast v28
  let c0 : Index := 0#32
  ![v29.toNat, 0]
def k0_off22 (i : grid0.Coords) (c0_i32_13 : BitVec 32) : Fin 2 → Nat :=
  let arg1 : BitVec 32 := BitVec.ofNat 32 (i 1).val
  let c4_i32_12 : BitVec 32 := 4#32
  let v31 : BitVec 32 := Scalar.muli arg1 c4_i32_12
  let v32 : BitVec 32 := Scalar.addi v31 c0_i32_13
  let v33 : Index := Scalar.indexCast v32
  let c1 : Index := 1#32
  ![v33.toNat, 1]
def k0_off23 (i : grid0.Coords) (c0_i32_15 : BitVec 32) : Fin 2 → Nat :=
  let arg1 : BitVec 32 := BitVec.ofNat 32 (i 1).val
  let c4_i32_14 : BitVec 32 := 4#32
  let v35 : BitVec 32 := Scalar.muli arg1 c4_i32_14
  let v36 : BitVec 32 := Scalar.addi v35 c0_i32_15
  let v37 : Index := Scalar.indexCast v36
  let c2 : Index := 2#32
  ![v37.toNat, 2]
def k0_off24 (i : grid0.Coords) (c0_i32_17 : BitVec 32) : Fin 2 → Nat :=
  let arg1 : BitVec 32 := BitVec.ofNat 32 (i 1).val
  let c4_i32_16 : BitVec 32 := 4#32
  let v39 : BitVec 32 := Scalar.muli arg1 c4_i32_16
  let v40 : BitVec 32 := Scalar.addi v39 c0_i32_17
  let v41 : Index := Scalar.indexCast v40
  let c3 : Index := 3#32
  ![v41.toNat, 3]
def k0_cond8 (i : grid0.Coords) : BitVec 1 :=
  let arg2 : BitVec 32 := BitVec.ofNat 32 (i 2).val
  let c6_i32 : BitVec 32 := 6#32
  let v21 : BitVec 1 := Scalar.cmpi .eq arg2 c6_i32
  let v22 : BitVec 32 := Scalar.extui v21
  let c0_i32_8 : BitVec 32 := 0#32
  let v23 : BitVec 1 := Scalar.cmpi .ne v22 c0_i32_8
  v23

def k0_off25 (i : grid0.Coords) (c0_i32_11 : BitVec 32) : Fin 2 → Nat :=
  let arg1 : BitVec 32 := BitVec.ofNat 32 (i 1).val
  let c4_i32_10 : BitVec 32 := 4#32
  let v27 : BitVec 32 := Scalar.muli arg1 c4_i32_10
  let v28 : BitVec 32 := Scalar.addi v27 c0_i32_11
  let v29 : Index := Scalar.indexCast v28
  let c0 : Index := 0#32
  ![v29.toNat, 0]
def k0_off26 (i : grid0.Coords) (c0_i32_13 : BitVec 32) : Fin 2 → Nat :=
  let arg1 : BitVec 32 := BitVec.ofNat 32 (i 1).val
  let c4_i32_12 : BitVec 32 := 4#32
  let v31 : BitVec 32 := Scalar.muli arg1 c4_i32_12
  let v32 : BitVec 32 := Scalar.addi v31 c0_i32_13
  let v33 : Index := Scalar.indexCast v32
  let c1 : Index := 1#32
  ![v33.toNat, 1]
def k0_off27 (i : grid0.Coords) (c0_i32_15 : BitVec 32) : Fin 2 → Nat :=
  let arg1 : BitVec 32 := BitVec.ofNat 32 (i 1).val
  let c4_i32_14 : BitVec 32 := 4#32
  let v35 : BitVec 32 := Scalar.muli arg1 c4_i32_14
  let v36 : BitVec 32 := Scalar.addi v35 c0_i32_15
  let v37 : Index := Scalar.indexCast v36
  let c2 : Index := 2#32
  ![v37.toNat, 2]
def k0_off28 (i : grid0.Coords) (c0_i32_17 : BitVec 32) : Fin 2 → Nat :=
  let arg1 : BitVec 32 := BitVec.ofNat 32 (i 1).val
  let c4_i32_16 : BitVec 32 := 4#32
  let v39 : BitVec 32 := Scalar.muli arg1 c4_i32_16
  let v40 : BitVec 32 := Scalar.addi v39 c0_i32_17
  let v41 : Index := Scalar.indexCast v40
  let c3 : Index := 3#32
  ![v41.toNat, 3]
def k0_cond9 (i : grid0.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_9 : BitVec 32 := 0#32
  let v26 : BitVec 1 := Scalar.cmpi .ne v25 c0_i32_9
  v26

def k0_off29 (i : grid0.Coords) (c0_i32_11 : BitVec 32) : Fin 2 → Nat :=
  let arg1 : BitVec 32 := BitVec.ofNat 32 (i 1).val
  let c4_i32_10 : BitVec 32 := 4#32
  let v27 : BitVec 32 := Scalar.muli arg1 c4_i32_10
  let v28 : BitVec 32 := Scalar.addi v27 c0_i32_11
  let v29 : Index := Scalar.indexCast v28
  let c0 : Index := 0#32
  ![v29.toNat, 0]
def k0_off30 (i : grid0.Coords) (c0_i32_13 : BitVec 32) : Fin 2 → Nat :=
  let arg1 : BitVec 32 := BitVec.ofNat 32 (i 1).val
  let c4_i32_12 : BitVec 32 := 4#32
  let v31 : BitVec 32 := Scalar.muli arg1 c4_i32_12
  let v32 : BitVec 32 := Scalar.addi v31 c0_i32_13
  let v33 : Index := Scalar.indexCast v32
  let c1 : Index := 1#32
  ![v33.toNat, 1]
def k0_off31 (i : grid0.Coords) (c0_i32_15 : BitVec 32) : Fin 2 → Nat :=
  let arg1 : BitVec 32 := BitVec.ofNat 32 (i 1).val
  let c4_i32_14 : BitVec 32 := 4#32
  let v35 : BitVec 32 := Scalar.muli arg1 c4_i32_14
  let v36 : BitVec 32 := Scalar.addi v35 c0_i32_15
  let v37 : Index := Scalar.indexCast v36
  let c2 : Index := 2#32
  ![v37.toNat, 2]
def k0_off32 (i : grid0.Coords) (c0_i32_17 : BitVec 32) : Fin 2 → Nat :=
  let arg1 : BitVec 32 := BitVec.ofNat 32 (i 1).val
  let c4_i32_16 : BitVec 32 := 4#32
  let v39 : BitVec 32 := Scalar.muli arg1 c4_i32_16
  let v40 : BitVec 32 := Scalar.addi v39 c0_i32_17
  let v41 : Index := Scalar.indexCast v40
  let c3 : Index := 3#32
  ![v41.toNat, 3]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x4x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x16x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S64x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S2048x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S2048x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Nsa.lean ====
abbrev S8x5 : Shape := ⟨2, ![8, 5]⟩
abbrev S16x8x64x2048 : Shape := ⟨4, ![16, 8, 64, 2048]⟩
abbrev S16x2x128x64 : Shape := ⟨4, ![16, 2, 128, 64]⟩
abbrev S16x2x64x128 : Shape := ⟨4, ![16, 2, 64, 128]⟩
abbrev S16x4x2x2048x64 : Shape := ⟨5, ![16, 4, 2, 2048, 64]⟩
abbrev S16x2x2x16x64x128 : Shape := ⟨6, ![16, 2, 2, 16, 64, 128]⟩
abbrev S16x2x16x2048 : Shape := ⟨4, ![16, 2, 16, 2048]⟩
abbrev S4x64 : Shape := ⟨2, ![4, 64]⟩
abbrev S32x128 : Shape := ⟨2, ![32, 128]⟩
abbrev S64x4 : Shape := ⟨2, ![64, 4]⟩
abbrev S2048x64 : Shape := ⟨2, ![2048, 64]⟩
abbrev S_ : Shape := ⟨0, ![]⟩
abbrev S16x2048x512 : Shape := ⟨3, ![16, 2048, 512]⟩
abbrev S1x8x64x128 : Shape := ⟨4, ![1, 8, 64, 128]⟩
abbrev S1x2x128x64 : Shape := ⟨4, ![1, 2, 128, 64]⟩
abbrev S1x2x64x128 : Shape := ⟨4, ![1, 2, 64, 128]⟩
abbrev S1x1x2x2048x64 : Shape := ⟨5, ![1, 1, 2, 2048, 64]⟩
abbrev S1x1x2x16x64x128 : Shape := ⟨6, ![1, 1, 2, 16, 64, 128]⟩
abbrev S1x2x16x128 : Shape := ⟨4, ![1, 2, 16, 128]⟩
abbrev S1x128x512 : Shape := ⟨3, ![1, 128, 512]⟩
abbrev S2x2048x128 : Shape := ⟨3, ![2, 2048, 128]⟩
abbrev S2x2560x128 : Shape := ⟨3, ![2, 2560, 128]⟩
abbrev S2x16x64x128 : Shape := ⟨4, ![2, 16, 64, 128]⟩
abbrev S2x20x64x128 : Shape := ⟨4, ![2, 20, 64, 128]⟩
abbrev S128x128 : Shape := ⟨2, ![128, 128]⟩
abbrev S640x128 : Shape := ⟨2, ![640, 128]⟩
abbrev S2x2048x512 : Shape := ⟨3, ![2, 2048, 512]⟩
abbrev S2x8x512 : Shape := ⟨3, ![2, 8, 512]⟩
abbrev S2x64x512 : Shape := ⟨3, ![2, 64, 512]⟩
abbrev S512x128 : Shape := ⟨2, ![512, 128]⟩
abbrev S1x1x1x2048x64 : Shape := ⟨5, ![1, 1, 1, 2048, 64]⟩
abbrev S1x64 : Shape := ⟨2, ![1, 64]⟩
abbrev S2048 : Shape := ⟨1, ![2048]⟩
abbrev S2048x1 : Shape := ⟨2, ![2048, 1]⟩
abbrev S2048x128 : Shape := ⟨2, ![2048, 128]⟩
abbrev S1x2048x128 : Shape := ⟨3, ![1, 2048, 128]⟩
abbrev S1x512x128 : Shape := ⟨3, ![1, 512, 128]⟩
abbrev S1x1x1x16x64x128 : Shape := ⟨6, ![1, 1, 1, 16, 64, 128]⟩
abbrev S16x64x128 : Shape := ⟨3, ![16, 64, 128]⟩
abbrev S1x16x64x128 : Shape := ⟨4, ![1, 16, 64, 128]⟩
abbrev S4x64x128 : Shape := ⟨3, ![4, 64, 128]⟩
abbrev S1x4x64x128 : Shape := ⟨4, ![1, 4, 64, 128]⟩
abbrev S64x1 : Shape := ⟨2, ![64, 1]⟩
abbrev S4x128 : Shape := ⟨2, ![4, 128]⟩
abbrev S4x1x128 : Shape := ⟨3, ![4, 1, 128]⟩
abbrev S1x64x1 : Shape := ⟨3, ![1, 64, 1]⟩
abbrev S1x64x128 : Shape := ⟨3, ![1, 64, 128]⟩
abbrev S64x128 : Shape := ⟨2, ![64, 128]⟩
abbrev S64x512 : Shape := ⟨2, ![64, 512]⟩
abbrev S1x1 : Shape := ⟨2, ![1, 1]⟩
abbrev S8x128 : Shape := ⟨2, ![8, 128]⟩
abbrev S24x128 : Shape := ⟨2, ![24, 128]⟩
abbrev S128x512 : Shape := ⟨2, ![128, 512]⟩
abbrev S1x640x128 : Shape := ⟨3, ![1, 640, 128]⟩
abbrev S640x512 : Shape := ⟨2, ![640, 512]⟩
abbrev S1x1x64x128 : Shape := ⟨4, ![1, 1, 64, 128]⟩
abbrev S512 : Shape := ⟨1, ![512]⟩
abbrev S1x512 : Shape := ⟨2, ![1, 512]⟩
abbrev S1x128x128 : Shape := ⟨3, ![1, 128, 128]⟩
abbrev S1x1x128x64 : Shape := ⟨4, ![1, 1, 128, 64]⟩
abbrev S128x64 : Shape := ⟨2, ![128, 64]⟩
abbrev S128 : Shape := ⟨1, ![128]⟩
abbrev S1x128 : Shape := ⟨2, ![1, 128]⟩
abbrev S1x1x512 : Shape := ⟨3, ![1, 1, 512]⟩
abbrev S1x64x512 : Shape := ⟨3, ![1, 64, 512]⟩
abbrev S1x256x128 : Shape := ⟨3, ![1, 256, 128]⟩
abbrev S256x128 : Shape := ⟨2, ![256, 128]⟩
abbrev S256x512 : Shape := ⟨2, ![256, 512]⟩
abbrev S1x2048x512 : Shape := ⟨3, ![1, 2048, 512]⟩
abbrev S2048x512 : Shape := ⟨2, ![2048, 512]⟩
abbrev S1x1x16x128 : Shape := ⟨4, ![1, 1, 16, 128]⟩
abbrev S16x128 : Shape := ⟨2, ![16, 128]⟩

abbrev nBuf : Space → Nat
  | .hbm => 81
  | .vmem => 33
  | .smem => 1
  | _ => 0

abbrev bufTy : (tb : Table) → Fin (tcTables nBuf tb) → BufTy
  | .hbm, ⟨0, _⟩ => ⟨S8x5, .f32⟩
  | .hbm, ⟨1, _⟩ => ⟨S16x8x64x2048, .f32⟩
  | .hbm, ⟨2, _⟩ => ⟨S16x2x128x64, .f32⟩
  | .hbm, ⟨3, _⟩ => ⟨S16x2x64x128, .f32⟩
  | .hbm, ⟨4, _⟩ => ⟨S16x4x2x2048x64, .f32⟩
  | .hbm, ⟨5, _⟩ => ⟨S16x2x2x16x64x128, .f32⟩
  | .hbm, ⟨6, _⟩ => ⟨S16x2x16x2048, .f32⟩
  | .hbm, ⟨7, _⟩ => ⟨S4x64, .f32⟩
  | .hbm, ⟨8, _⟩ => ⟨S32x128, .f32⟩
  | .hbm, ⟨9, _⟩ => ⟨S64x4, .f32⟩
  | .hbm, ⟨10, _⟩ => ⟨S2048x64, .i32⟩
  | .hbm, ⟨11, _⟩ => ⟨S2048x64, .i32⟩
  | .hbm, ⟨12, _⟩ => ⟨S_, .i32⟩
  | .hbm, ⟨13, _⟩ => ⟨S2048x64, .i32⟩
  | .hbm, ⟨14, _⟩ => ⟨S2048x64, .i32⟩
  | .hbm, ⟨15, _⟩ => ⟨S_, .i32⟩
  | .hbm, ⟨16, _⟩ => ⟨S2048x64, .i32⟩
  | .hbm, ⟨17, _⟩ => ⟨S2048x64, .i32⟩
  | .hbm, ⟨18, _⟩ => ⟨S_, .i32⟩
  | .hbm, ⟨19, _⟩ => ⟨S2048x64, .i32⟩
  | .hbm, ⟨20, _⟩ => ⟨S2048x64, .i32⟩
  | .hbm, ⟨21, _⟩ => ⟨S_, .i32⟩
  | .hbm, ⟨22, _⟩ => ⟨S2048x64, .i32⟩
  | .hbm, ⟨23, _⟩ => ⟨S2048x64, .i1⟩
  | .hbm, ⟨24, _⟩ => ⟨S_, .i32⟩
  | .hbm, ⟨25, _⟩ => ⟨S2048x64, .i32⟩
  | .hbm, ⟨26, _⟩ => ⟨S2048x64, .i1⟩
  | .hbm, ⟨27, _⟩ => ⟨S2048x64, .i1⟩
  | .hbm, ⟨28, _⟩ => ⟨S_, .i32⟩
  | .hbm, ⟨29, _⟩ => ⟨S2048x64, .i32⟩
  | .hbm, ⟨30, _⟩ => ⟨S2048x64, .i1⟩
  | .hbm, ⟨31, _⟩ => ⟨S_, .i32⟩
  | .hbm, ⟨32, _⟩ => ⟨S2048x64, .i32⟩
  | .hbm, ⟨33, _⟩ => ⟨S2048x64, .i1⟩
  | .hbm, ⟨34, _⟩ => ⟨S2048x64, .i1⟩
  | .hbm, ⟨35, _⟩ => ⟨S_, .i32⟩
  | .hbm, ⟨36, _⟩ => ⟨S_, .i32⟩
  | .hbm, ⟨37, _⟩ => ⟨S2048x64, .i32⟩
  | .hbm, ⟨38, _⟩ => ⟨S2048x64, .i32⟩
  | .hbm, ⟨39, _⟩ => ⟨S2048x64, .i32⟩
  | .hbm, ⟨40, _⟩ => ⟨S_, .i32⟩
  | .hbm, ⟨41, _⟩ => ⟨S2048x64, .i32⟩
  | .hbm, ⟨42, _⟩ => ⟨S2048x64, .i32⟩
  | .hbm, ⟨43, _⟩ => ⟨S2048x64, .i1⟩
  | .hbm, ⟨44, _⟩ => ⟨S_, .i32⟩
  | .hbm, ⟨45, _⟩ => ⟨S_, .i32⟩
  | .hbm, ⟨46, _⟩ => ⟨S2048x64, .i32⟩
  | .hbm, ⟨47, _⟩ => ⟨S2048x64, .i32⟩
  | .hbm, ⟨48, _⟩ => ⟨S2048x64, .f32⟩
  | .hbm, ⟨49, _⟩ => ⟨S2048x64, .i32⟩
  | .hbm, ⟨50, _⟩ => ⟨S2048x64, .i32⟩
  | .hbm, ⟨51, _⟩ => ⟨S_, .i32⟩
  | .hbm, ⟨52, _⟩ => ⟨S2048x64, .i32⟩
  | .hbm, ⟨53, _⟩ => ⟨S2048x64, .i32⟩
  | .hbm, ⟨54, _⟩ => ⟨S_, .i32⟩
  | .hbm, ⟨55, _⟩ => ⟨S2048x64, .i32⟩
  | .hbm, ⟨56, _⟩ => ⟨S2048x64, .i32⟩
  | .hbm, ⟨57, _⟩ => ⟨S_, .i32⟩
  | .hbm, ⟨58, _⟩ => ⟨S2048x64, .i32⟩
  | .hbm, ⟨59, _⟩ => ⟨S2048x64, .i32⟩
  | .hbm, ⟨60, _⟩ => ⟨S_, .i32⟩
  | .hbm, ⟨61, _⟩ => ⟨S2048x64, .i32⟩
  | .hbm, ⟨62, _⟩ => ⟨S2048x64, .i1⟩
  | .hbm, ⟨63, _⟩ => ⟨S_, .i32⟩
  | .hbm, ⟨64, _⟩ => ⟨S2048x64, .i32⟩
  | .hbm, ⟨65, _⟩ => ⟨S2048x64, .i1⟩
  | .hbm, ⟨66, _⟩ => ⟨S2048x64, .i1⟩
  | .hbm, ⟨67, _⟩ => ⟨S_, .i32⟩
  | .hbm, ⟨68, _⟩ => ⟨S2048x64, .i32⟩
  | .hbm, ⟨69, _⟩ => ⟨S2048x64, .i1⟩
  | .hbm, ⟨70, _⟩ => ⟨S_, .i32⟩
  | .hbm, ⟨71, _⟩ => ⟨S2048x64, .i32⟩
  | .hbm, ⟨72, _⟩ => ⟨S2048x64, .i1⟩
  | .hbm, ⟨73, _⟩ => ⟨S2048x64, .i1⟩
  | .hbm, ⟨74, _⟩ => ⟨S_, .i32⟩
  | .hbm, ⟨75, _⟩ => ⟨S_, .i32⟩
  | .hbm, ⟨76, _⟩ => ⟨S2048x64, .i32⟩
  | .hbm, ⟨77, _⟩ => ⟨S2048x64, .i32⟩
  | .hbm, ⟨78, _⟩ => ⟨S2048x64, .i32⟩
  | .hbm, ⟨79, _⟩ => ⟨S2048x64, .f32⟩
  | .hbm, ⟨80, _⟩ => ⟨S16x2048x512, .bf16⟩
  | .local _ .vmem, ⟨0, _⟩ => ⟨S1x8x64x128, .f32⟩
  | .local _ .vmem, ⟨1, _⟩ => ⟨S1x8x64x128, .f32⟩
  | .local _ .vmem, ⟨2, _⟩ => ⟨S1x2x128x64, .f32⟩
  | .local _ .vmem, ⟨3, _⟩ => ⟨S1x2x128x64, .f32⟩
  | .local _ .vmem, ⟨4, _⟩ => ⟨S1x2x64x128, .f32⟩
  | .local _ .vmem, ⟨5, _⟩ => ⟨S1x2x64x128, .f32⟩
  | .local _ .vmem, ⟨6, _⟩ => ⟨S1x1x2x2048x64, .f32⟩
  | .local _ .vmem, ⟨7, _⟩ => ⟨S1x1x2x2048x64, .f32⟩
  | .local _ .vmem, ⟨8, _⟩ => ⟨S1x1x2x2048x64, .f32⟩
  | .local _ .vmem, ⟨9, _⟩ => ⟨S1x1x2x2048x64, .f32⟩
  | .local _ .vmem, ⟨10, _⟩ => ⟨S1x1x2x16x64x128, .f32⟩
  | .local _ .vmem, ⟨11, _⟩ => ⟨S1x1x2x16x64x128, .f32⟩
  | .local _ .vmem, ⟨12, _⟩ => ⟨S1x1x2x16x64x128, .f32⟩
  | .local _ .vmem, ⟨13, _⟩ => ⟨S1x1x2x16x64x128, .f32⟩
  | .local _ .vmem, ⟨14, _⟩ => ⟨S1x2x16x128, .f32⟩
  | .local _ .vmem, ⟨15, _⟩ => ⟨S1x2x16x128, .f32⟩
  | .local _ .vmem, ⟨16, _⟩ => ⟨S4x64, .f32⟩
  | .local _ .vmem, ⟨17, _⟩ => ⟨S64x4, .f32⟩
  | .local _ .vmem, ⟨18, _⟩ => ⟨S32x128, .f32⟩
  | .local _ .vmem, ⟨19, _⟩ => ⟨S2048x64, .f32⟩
  | .local _ .vmem, ⟨20, _⟩ => ⟨S2048x64, .f32⟩
  | .local _ .vmem, ⟨21, _⟩ => ⟨S1x128x512, .bf16⟩
  | .local _ .vmem, ⟨22, _⟩ => ⟨S1x128x512, .bf16⟩
  | .local _ .vmem, ⟨23, _⟩ => ⟨S2x2048x128, .bf16⟩
  | .local _ .vmem, ⟨24, _⟩ => ⟨S2x2048x128, .bf16⟩
  | .local _ .vmem, ⟨25, _⟩ => ⟨S2x2560x128, .bf16⟩
  | .local _ .vmem, ⟨26, _⟩ => ⟨S2x16x64x128, .bf16⟩
  | .local _ .vmem, ⟨27, _⟩ => ⟨S2x20x64x128, .bf16⟩
  | .local _ .vmem, ⟨28, _⟩ => ⟨S128x128, .f32⟩
  | .local _ .vmem, ⟨29, _⟩ => ⟨S640x128, .f32⟩
  | .local _ .vmem, ⟨30, _⟩ => ⟨S2x2048x512, .f32⟩
  | .local _ .vmem, ⟨31, _⟩ => ⟨S2x8x512, .f32⟩
  | .local _ .vmem, ⟨32, _⟩ => ⟨S2x64x512, .f32⟩
  | .local _ .smem, ⟨0, _⟩ => ⟨S8x5, .f32⟩
  | _, _ => ⟨S8x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_c_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_6 : Ref sig .tc := ⟨.hbm, 35, rfl⟩
abbrev main_call0_v0 : Ref sig .tc := ⟨.hbm, 36, rfl⟩
abbrev main_call0_v1 : Ref sig .tc := ⟨.hbm, 37, rfl⟩
abbrev main_v19 : Ref sig .tc := ⟨.hbm, 38, rfl⟩
abbrev main_v20 : Ref sig .tc := ⟨.hbm, 39, rfl⟩
abbrev main_c_7 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_8 : Ref sig .tc := ⟨.hbm, 44, rfl⟩
abbrev main_call2_v0 : Ref sig .tc := ⟨.hbm, 45, rfl⟩
abbrev main_call2_v1 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_9 : Ref sig .tc := ⟨.hbm, 51, rfl⟩
abbrev main_v28 : Ref sig .tc := ⟨.hbm, 52, rfl⟩
abbrev main_v29 : Ref sig .tc := ⟨.hbm, 53, rfl⟩
abbrev main_c_10 : Ref sig .tc := ⟨.hbm, 54, rfl⟩
abbrev main_v30 : Ref sig .tc := ⟨.hbm, 55, rfl⟩
abbrev main_v31 : Ref sig .tc := ⟨.hbm, 56, rfl⟩
abbrev main_c_11 : Ref sig .tc := ⟨.hbm, 57, rfl⟩
abbrev main_v32 : Ref sig .tc := ⟨.hbm, 58, rfl⟩
abbrev main_v33 : Ref sig .tc := ⟨.hbm, 59, rfl⟩
abbrev main_c_12 : Ref sig .tc := ⟨.hbm, 60, rfl⟩
abbrev main_v34 : Ref sig .tc := ⟨.hbm, 61, rfl⟩
abbrev main_v35 : Ref sig .tc := ⟨.hbm, 62, rfl⟩
abbrev main_c_13 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_14 : Ref sig .tc := ⟨.hbm, 67, rfl⟩
abbrev main_v39 : Ref sig .tc := ⟨.hbm, 68, rfl⟩
abbrev main_v40 : Ref sig .tc := ⟨.hbm, 69, rfl⟩
abbrev main_c_15 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_16 : Ref sig .tc := ⟨.hbm, 74, rfl⟩
abbrev main_call3_v0 : Ref sig .tc := ⟨.hbm, 75, rfl⟩
abbrev main_call3_v1 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_scratch9 : Ref sig .tc := ⟨.vmem, 32, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c128_i32 : BitVec 32 := 128#32
  let v3 : BitVec 32 := Scalar.muli arg1 c128_i32
  v3
def k0_off1 (i : grid0.Coords) : Fin 3 → Nat :=
  let c0_66 : Index := 0#32
  let arg1 : BitVec 32 := BitVec.ofNat 32 (i 1).val
  let c128_i32 : BitVec 32 := 128#32
  let v3 : BitVec 32 := Scalar.muli arg1 c128_i32
  let v4 : BitVec 32 := v3
  let v148 : Index := Scalar.indexCast v4
  let c0_67 : Index := 0#32
  ![0, v148.toNat, 0]
def k0_off2 (i : grid0.Coords) (c0_i32_71 : BitVec 32) : Fin 4 → Nat :=
  let c0_72 : Index := 0#32
  let arg1 : BitVec 32 := BitVec.ofNat 32 (i 1).val
  let v155 : BitVec 32 := Scalar.addi arg1 c0_i32_71
  let v156 : Index := Scalar.indexCast v155
  let c0_73 : Index := 0#32
  let c0_74 : Index := 0#32
  ![0, v156.toNat, 0, 0]
def k0_off3 (i : grid0.Coords) : Fin 3 → Nat :=
  let c0_98 : Index := 0#32
  let arg1 : BitVec 32 := BitVec.ofNat 32 (i 1).val
  let c128_i32 : BitVec 32 := 128#32
  let v3 : BitVec 32 := Scalar.muli arg1 c128_i32
  let v4 : BitVec 32 := v3
  let v201 : Index := Scalar.indexCast v4
  let c0_99 : Index := 0#32
  ![0, v201.toNat, 0]
def k0_off4 (i : grid0.Coords) : Fin 4 → Nat :=
  let c0_103 : Index := 0#32
  let arg1 : BitVec 32 := BitVec.ofNat 32 (i 1).val
  let v208 : Index := Scalar.indexCast arg1
  let c0_104 : Index := 0#32
  let c0_105 : Index := 0#32
  ![0, v208.toNat, 0, 0]
def k0_off5 (i : grid0.Coords) : Fin 3 → Nat :=
  let c1_319 : Index := 1#32
  let arg1 : BitVec 32 := BitVec.ofNat 32 (i 1).val
  let c128_i32 : BitVec 32 := 128#32
  let v3 : BitVec 32 := Scalar.muli arg1 c128_i32
  let v4 : BitVec 32 := v3
  let v1016 : Index := Scalar.indexCast v4
  let c0_320 : Index := 0#32
  ![1, v1016.toNat, 0]
def k0_off6 (i : grid0.Coords) (c0_i32_324 : BitVec 32) : Fin 4 → Nat :=
  let c1_325 : Index := 1#32
  let arg1 : BitVec 32 := BitVec.ofNat 32 (i 1).val
  let v1023 : BitVec 32 := Scalar.addi arg1 c0_i32_324
  let v1024 : Index := Scalar.indexCast v1023
  let c0_326 : Index := 0#32
  let c0_327 : Index := 0#32
  ![1, v1024.toNat, 0, 0]
def k0_off7 (i : grid0.Coords) : Fin 3 → Nat :=
  let c1_352 : Index := 1#32
  let arg1 : BitVec 32 := BitVec.ofNat 32 (i 1).val
  let c128_i32 : BitVec 32 := 128#32
  let v3 : BitVec 32 := Scalar.muli arg1 c128_i32
  let v4 : BitVec 32 := v3
  let v1069 : Index := Scalar.indexCast v4
  let c0_353 : Index := 0#32
  ![1, v1069.toNat, 0]
def k0_off8 (i : grid0.Coords) : Fin 4 → Nat :=
  let c1_357 : Index := 1#32
  let arg1 : BitVec 32 := BitVec.ofNat 32 (i 1).val
  let v1076 : Index := Scalar.indexCast arg1
  let c0_358 : Index := 0#32
  let c0_359 : Index := 0#32
  ![1, v1076.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  let c0_i32_2 : BitVec 32 := 0#32
  ![arg0.toNat, c2_i32.toNat, c0_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  let c0_i32_2 : BitVec 32 := 0#32
  ![arg0.toNat, c3_i32.toNat, c0_i32.toNat, c0_i32_0.toNat, c0_i32_1.toNat]

def cc0_transform_6 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

def cc0_transform_7 (i : grid0.Coords) : Fin 6 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c1_i32.toNat, c0_i32.toNat, c0_i32_0.toNat, c0_i32_1.toNat, c0_i32_2.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8x5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2x2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2x16x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2x16x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S4x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2048x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2048x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Proof.FfnMath.lean ====
/- The feed-forward half step on one row, over the extended reals: what the tiled kernel and the plain
   formula both say, and that summing the hidden axis in eleven chunks of 256 is summing it whole. -/
module

public import Idealize.ShloMosaic.Lib.Pointwise

@[expose] public section

set_option maxRecDepth 16384

noncomputable section

open Idealize.ShloMosaic

namespace Cert.HalfStep

/-- One row, RMS-normalised and scaled by the gain: entry `k`. -/
def nrm (x g : Fin 1024 → EReal) (k : Fin 1024) : EReal :=
  x k * Ideal.rsqrt (Ideal.div (∑ l, x l * x l) (Ideal.ofBits .f32 0x44800000#32)
    + Ideal.ofBits .f32 0x358637BD#32) * g k

/-- A normalised row times one weight column. -/
def prj (x g w : Fin 1024 → EReal) : EReal :=
  ∑ k, nrm x g k * w k

/-- Entry `p` of a row times a weight matrix into the hidden axis. -/
def up (h : Fin 1024 → EReal) (w : Fin 1024 → Fin 2816 → EReal) (p : Fin 2816) : EReal :=
  ∑ k, h k * w k p

/-- The gated hidden entry `p`. -/
def hid (h : Fin 1024 → EReal) (w1 w3 : Fin 1024 → Fin 2816 → EReal) (p : Fin 2816) : EReal :=
  up h w1 p * Ideal.logistic (up h w1 p) * up h w3 p

/-- The half step's entry `j`: the residual plus half of the gated projection. -/
def row (x h : Fin 1024 → EReal) (w1 w3 : Fin 1024 → Fin 2816 → EReal)
    (w2 : Fin 2816 → Fin 1024 → EReal) (j : Fin 1024) : EReal :=
  x j + Ideal.ofBits .f32 0x3F000000#32 * ∑ p, hid h w1 w3 p * w2 p j

/-- Chunk `c` of a sum over the hidden axis. -/
def chunk (f : Fin 2816 → EReal) (c : Fin 11) : EReal :=
  ∑ q : Fin 256, f ⟨c.val * 256 + q.val, by omega⟩

/-- Eleven chunks of 256, added from the left onto zero, are the whole sum. -/
theorem chunks (f : Fin 2816 → EReal) :
    chunk f 0 + chunk f 1 + chunk f 2 + chunk f 3 + chunk f 4 + chunk f 5 + chunk f 6
      + chunk f 7 + chunk f 8 + chunk f 9 + chunk f 10 = ∑ p, f p := by
  have h : ∑ p, f p = ∑ c : Fin 11, chunk f c := Fin.sum_univ_tiles 11 256 rfl f
  rw [h]
  simp only [Fin.sum_univ_succ, Fin.sum_univ_zero, zero_add, add_zero, add_assoc]
  rfl

/-- The half step of a normalised row depends on its arrays entry by entry. -/
theorem row_congr {x x' g g' : Fin 1024 → EReal} {w1 w1' w3 w3' : Fin 1024 → Fin 2816 → EReal}
    {w2 w2' : Fin 2816 → Fin 1024 → EReal} {j j' : Fin 1024} (hx : ∀ k, x k = x' k) (hg : ∀ k, g k = g' k)
    (h1 : ∀ k p, w1 k p = w1' k p) (h3 : ∀ k p, w3 k p = w3' k p) (h2 : ∀ p l, w2 p l = w2' p l) (hj : j = j') :
    row x (nrm x g) w1 w3 w2 j = row x' (nrm x' g') w1' w3' w2' j' := by
  obtain rfl : x = x' := funext hx
  obtain rfl : g = g' := funext hg
  obtain rfl : w1 = w1' := funext fun k => funext (h1 k)
  obtain rfl : w3 = w3' := funext fun k => funext (h3 k)
  obtain rfl : w2 = w2' := funext fun k => funext (h2 k)
  rw [hj]

/-- The merged mixers' row, projected and added to the residual: entry `k`. -/
def mrg (x gn gm : Fin 1024 → EReal) (on om : Fin 512 → EReal) (wun wum : Fin 512 → Fin 1024 → EReal)
    (wo : Fin 1024 → Fin 1024 → EReal) (k : Fin 1024) : EReal :=
  x k + ∑ d, (Ideal.logistic (gn d) * (∑ e, on e * wun e d) + Ideal.logistic (gm d) * (∑ e, om e * wum e d)) * wo d k

/-- The merged row depends on its arrays entry by entry. -/
theorem mrg_congr {x x' gn gn' gm gm' : Fin 1024 → EReal} {on on' om om' : Fin 512 → EReal}
    {wun wun' wum wum' : Fin 512 → Fin 1024 → EReal} {wo wo' : Fin 1024 → Fin 1024 → EReal}
    (hx : ∀ k, x k = x' k) (hgn : ∀ k, gn k = gn' k) (hgm : ∀ k, gm k = gm' k) (hon : ∀ e, on e = on' e)
    (hom : ∀ e, om e = om' e) (hun : ∀ e d, wun e d = wun' e d) (hum : ∀ e d, wum e d = wum' e d)
    (ho : ∀ d k, wo d k = wo' d k) (k : Fin 1024) :
    mrg x gn gm on om wun wum wo k = mrg x' gn' gm' on' om' wun' wum' wo' k := by
  obtain rfl : x = x' := funext hx
  obtain rfl : gn = gn' := funext hgn
  obtain rfl : gm = gm' := funext hgm
  obtain rfl : on = on' := funext hon
  obtain rfl : om = om' := funext hom
  obtain rfl : wun = wun' := funext fun k => funext (hun k)
  obtain rfl : wum = wum' := funext fun k => funext (hum k)
  obtain rfl : wo = wo' := funext fun k => funext (ho k)
  rfl

end Cert.HalfStep

end
-- ==== Proof.FfnValue.lean ====
module

public import proofs.«01_k».proof.Proof.Gen.FfnIdeal.Frame
public import proofs.«01_k».proof.Proof.Gen.FfnRefIdeal.Run
public import proofs.«01_k».proof.Proof.FfnMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnRefIdeal.RowValue

open Cert.FfnRefIdeal Cert.FfnRefIdeal.Gen

/-- What the plain formula computes from its five arrays. -/
def REF (X : FVec Ideal S16x2048x1024 .f32) (g : FVec Ideal S1024 .f32) (w1 w3 : FVec Ideal S1024x2816 .f32)
    (w2 : FVec Ideal S2816x1024 .f32) : FVec Ideal S32768x1024 .f32 :=
  shapeCast _ (addf X (mulf (broadcastInDim S16x2048x1024 ![] bcast_S_S16x2048x1024 (constant S_ .f32 0x3F000000#32)) (Host.dotGeneral dot_S16x2048x2816_S2816x1024_S16x2048x1024_2_0_01_1_n_n none (mulf (mulf (Host.dotGeneral dot_S16x2048x1024_S1024x2816_S16x2048x2816_2_0_01_1_n_n none (mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) w1) (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf (Host.dotGeneral dot_S16x2048x1024_S1024x2816_S16x2048x2816_2_0_01_1_n_n none (mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) w1)))))) (Host.dotGeneral dot_S16x2048x1024_S1024x2816_S16x2048x2816_2_0_01_1_n_n none (mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) w3)) w2))) shapeCasts_S16x2048x1024_S32768x1024

/-- It is the half step of each row. -/
theorem REF_at (X : FVec Ideal S16x2048x1024 .f32) (g : FVec Ideal S1024 .f32) (w1 w3 : FVec Ideal S1024x2816 .f32)
    (w2 : FVec Ideal S2816x1024 .f32) (r : Fin 32768) (j : Fin 1024) :
    REF X g w1 w3 w2 (ix2 r j)
      = HalfStep.row (fun k => X (ix3 ⟨r.val / 2048, by omega⟩ ⟨r.val % 2048, by omega⟩ k))
          (HalfStep.nrm (fun k => X (ix3 ⟨r.val / 2048, by omega⟩ ⟨r.val % 2048, by omega⟩ k)) (fun k => g (ix1 k)))
          (fun k p => w1 (ix2 k p)) (fun k p => w3 (ix2 k p)) (fun p l => w2 (ix2 p l)) j := by
  pointwise [REF]
  rfl

end Cert.FfnRefIdeal.RowValue

namespace Cert.FfnIdeal.RowValue

open Cert.FfnIdeal Cert.FfnIdeal.Gen

theorem pay3_at (x : FVec Ideal S512x1024 .f32) (g : FVec Ideal S1x1024 .f32) (r : Fin 512) (k : Fin 1024) :
    k0_pay3 (F := Ideal) x g (ix2 r k) = HalfStep.nrm (fun l => x (ix2 r l)) (fun l => g (ix2 0 l)) k := by
  pointwise [k0_pay3, k0_pay2, HalfStep.nrm]

set_option maxHeartbeats 2000000 in
theorem out_at (x0 : FVec Ideal S512x1024 .f32) (x1 : FVec Ideal S1x1024 .f32)
    (x2 x3 : FVec Ideal S1024x2816 .bf16) (x4 : FVec Ideal S2816x1024 .bf16) (r : Fin 512) (j : Fin 1024) :
    out0_5 (F := Ideal) x0 x1 x2 x3 x4 (ix2 r j)
      = HalfStep.row (fun k => x0 (ix2 r k)) (HalfStep.nrm (fun k => x0 (ix2 r k)) (fun k => x1 (ix2 0 k)))
          (fun k p => x2 (ix2 k p)) (fun k p => x3 (ix2 k p)) (fun p l => x4 (ix2 p l)) j := by
  unfold out0_5
  canon_tiles x h
  obtain rfl : x = ix2 r j :=
    (eq_ix2 x).trans ((ix2_inj ..).2 ⟨Fin.ext h0.symm, Fin.ext h1.symm⟩)
  have hH : ∀ k, k0_pay3 (F := Ideal) (View.ld x0 r0_0) (View.ld x1 r0_1) (ix2 r k)
      = HalfStep.nrm (fun k => x0 (ix2 r k)) (fun k => x1 (ix2 0 k)) k := by
    intro k
    rw [pay3_at]
    refine congrArg₂ (fun u v => HalfStep.nrm u v k) (funext fun l => ?_) (funext fun l => ?_) <;>
      pointwise []
  pointwise [k0_pay1, k0_pay2, k0_pay4, k0_pay5, k0_pay6, k0_pay7, k0_pay8, k0_pay9, k0_pay10, k0_pay11, k0_pay12, hH]
  rw [HalfStep.row, ← HalfStep.chunks]
  refine congrArg₂ (· + ·) ?_ (congrArg₂ (· * ·) rfl ?_)
  · rfl
  · rfl

/-- Where each window's block lies at grid point `t`. -/
theorem idx : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![t.val, 0] :=
  (by decide +kernel : ∀ t : Fin grid0.N, _)

variable (m : (ℓ : Loc nD τ sig) → Buf (Elt Ideal) ℓ)

/-- The kernel's rows are the activation's, batch by batch. -/
theorem x_at (c : Dev nD) (r : Fin 32768) (k : Fin 1024) :
    V m c main_v0 (ix2 r k)
      = m ((c.tc : Thread nD τ).loc main_arg0) (ix3 ⟨r.val / 2048, by omega⟩ ⟨r.val % 2048, by omega⟩ k) := by
  entry_read
  pointwise

/-- A block the kernel writes back is the plain formula at the rows it lies over. -/
theorem point (c : Dev nD) (t : Fin cfg0.N) (y : S512x1024.Idx) :
    out0_5 (F := Ideal) (iblk m c 0 t) (iblk m c 1 t) (iblk m c 2 t) (iblk m c 3 t) (iblk m c 4 t) y
      = FfnRefIdeal.RowValue.REF (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (((cfg0.win 5).blk t).view.emb y) := by
  idx_vars y
  rw [out_at, eq_ix2 (((cfg0.win 5).blk t).view.emb (ix2 y0 y1))]
  refine Eq.trans ?_ (FfnRefIdeal.RowValue.REF_at _ _ _ _ _ _ _).symm
  refine HalfStep.row_congr (fun k => ?_) (fun k => ?_) (fun k p => ?_) (fun k p => ?_) (fun p l => ?_) ?_
  · have e : ((cfg0.win 0).blk t).view.emb (ix2 y0 k)
        = ix2 ((((cfg0.win 5).blk t).view.emb (ix2 y0 y1)) 0) k := by
      blk_ext [idx t]
    exact (congrArg (V m c main_v0) e).trans (x_at m c _ k)
  · blk_point [iblk, V, idx t]
  · blk_point [iblk, V, idx t]
  · blk_point [iblk, V, idx t]
  · blk_point [iblk, V, idx t]
  · refine Fin.ext ?_
    blk_simp [idx t]

/-- The whole result array after the run is the plain formula of the arguments. -/
theorem final (c : Dev nD) : (dats m 0 c).arrAt 5 (cfgs 0).N
    = FfnRefIdeal.RowValue.REF (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  refine (dats m 0 c).arrAt_eq_of_covers 5 _ (by decide +kernel) fun t _ y => ?_
  blk_simp
  rw [after0_5]
  exact point m c t y

end Cert.FfnIdeal.RowValue

end
-- ==== Proof.InprojValue.lean ====
/- The input projection: each of its nine result arrays is the plain formula. -/
module

public import proofs.«01_k».proof.Proof.Gen.InprojIdeal.Frame
public import proofs.«01_k».proof.Proof.Gen.InprojRefIdeal.Run
public import proofs.«01_k».proof.Proof.FfnMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace HalfStep

theorem zeroI : (FloatOps.sitofp (F := Ideal) FTy.f32 (0#32 : BitVec 32)) = (0 : EReal) := by
  simp [FloatOps.sitofp]

end HalfStep

namespace Cert.InprojRefIdeal.RowValue

open Cert.InprojRefIdeal Cert.InprojRefIdeal.Gen

/-- The combined projection of the normalised activation, plainly. -/
def PROJ (X : FVec Ideal S16x2048x1024 .f32) (g : FVec Ideal S1024 .f32) (w : FVec Ideal S1024x4888 .f32) :
    FVec Ideal S16x2048x4888 .f32 :=
  Host.dotGeneral dot_S16x2048x1024_S1024x4888_S16x2048x4888_2_0_01_1_n_n none (mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) w

theorem PROJ_at (X : FVec Ideal S16x2048x1024 .f32) (g : FVec Ideal S1024 .f32) (w : FVec Ideal S1024x4888 .f32)
    (b : Fin 16) (s : Fin 2048) (j : Fin 4888) :
    PROJ X g w (ix3 b s j)
      = HalfStep.prj (fun k => X (ix3 b s k)) (fun k => g (ix1 k)) (fun k => w (ix2 k j)) := by
  pointwise [PROJ]
  rfl

/-- Result 0: the projection's columns in the layout the call hands them over. -/
def LAY4 (Y : FVec Ideal S16x2048x4888 .f32) : FVec Ideal S16x4x2x2048x64 .f32 :=
  (concatenate S16x4x2x2048x64 1 [⟨S16x1x2x2048x64, ((broadcastInDim S16x1x2x2048x64 ![0, 2, 3, 4] bcast_S16x2x2048x64_S16x1x2x2048x64_0_2_3_4 (transpose S16x2x2048x64 [0, 2, 1, 3] (shapeCast _ (extractStridedSlice S16x2048x128 ![0, 0, 512] Y slices_S16x2048x4888_S16x2048x128_0_0_512) shapeCasts_S16x2048x128_S16x2048x2x64) transposes_S16x2048x2x64_S16x2x2048x64_0_2_1_3)) : (⟨S16x1x2x2048x64, .f32⟩ : BufTy).Contents (Elt Ideal))⟩, ⟨S16x1x2x2048x64, ((broadcastInDim S16x1x2x2048x64 ![0, 2, 3, 4] bcast_S16x2x2048x64_S16x1x2x2048x64_0_2_3_4 (transpose S16x2x2048x64 [0, 2, 1, 3] (shapeCast _ (extractStridedSlice S16x2048x128 ![0, 0, 640] Y slices_S16x2048x4888_S16x2048x128_0_0_640) shapeCasts_S16x2048x128_S16x2048x2x64) transposes_S16x2048x2x64_S16x2x2048x64_0_2_1_3)) : (⟨S16x1x2x2048x64, .f32⟩ : BufTy).Contents (Elt Ideal))⟩, ⟨S16x1x2x2048x64, ((broadcastInDim S16x1x2x2048x64 ![0, 2, 3, 4] bcast_S16x2x2048x64_S16x1x2x2048x64_0_2_3_4 (transpose S16x2x2048x64 [0, 2, 1, 3] (shapeCast _ (extractStridedSlice S16x2048x128 ![0, 0, 768] Y slices_S16x2048x4888_S16x2048x128_0_0_768) shapeCasts_S16x2048x128_S16x2048x2x64) transposes_S16x2048x2x64_S16x2x2048x64_0_2_1_3)) : (⟨S16x1x2x2048x64, .f32⟩ : BufTy).Contents (Elt Ideal))⟩, ⟨S16x1x2x2048x64, ((broadcastInDim S16x1x2x2048x64 ![0, 2, 3, 4] bcast_S16x2x2048x64_S16x1x2x2048x64_0_2_3_4 (transpose S16x2x2048x64 [0, 2, 1, 3] (shapeCast _ (extractStridedSlice S16x2048x128 ![0, 0, 1024] Y slices_S16x2048x4888_S16x2048x128_0_0_1024) shapeCasts_S16x2048x128_S16x2048x2x64) transposes_S16x2048x2x64_S16x2x2048x64_0_2_1_3)) : (⟨S16x1x2x2048x64, .f32⟩ : BufTy).Contents (Elt Ideal))⟩] concatenates_S16x1x2x2048x64_S16x1x2x2048x64_S16x1x2x2048x64_S16x1x2x2048x64_S16x4x2x2048x64_d1 : (⟨S16x4x2x2048x64, .f32⟩ : BufTy).Contents (Elt Ideal))

theorem LAY4_at (Y : FVec Ideal S16x2048x4888 .f32) (b : Fin 16) (a : Fin 4) (h : Fin 2) (s : Fin 2048) (d : Fin 64) :
    LAY4 Y (ix5 b a h s d) = Y (ix3 b s ⟨512 + a.val * 128 + a.val / 3 * 128 + h.val * 64 + d.val, by omega⟩) := by
  pointwise [LAY4]
  all_goals blk_point []

/-- Result 1: the projection's columns in the layout the call hands them over. -/
def LAY5 (Y : FVec Ideal S16x2048x4888 .f32) : FVec Ideal S16x8x2048x64 .f32 :=
  transpose S16x8x2048x64 [0, 2, 1, 3] (shapeCast _ (extractStridedSlice S16x2048x512 ![0, 0, 1816] Y slices_S16x2048x4888_S16x2048x512_0_0_1816) shapeCasts_S16x2048x512_S16x2048x8x64) transposes_S16x2048x8x64_S16x8x2048x64_0_2_1_3

theorem LAY5_at (Y : FVec Ideal S16x2048x4888 .f32) (b : Fin 16) (h : Fin 8) (s : Fin 2048) (d : Fin 64) :
    LAY5 Y (ix4 b h s d) = Y (ix3 b s ⟨1816 + h.val * 64 + d.val, by omega⟩) := by
  pointwise [LAY5]
  all_goals blk_point []

/-- Result 2: the projection's columns in the layout the call hands them over. -/
def LAY6 (Y : FVec Ideal S16x2048x4888 .f32) : FVec Ideal S16x2048x1024 .f32 :=
  extractStridedSlice S16x2048x1024 ![0, 0, 2840] Y slices_S16x2048x4888_S16x2048x1024_0_0_2840

theorem LAY6_at (Y : FVec Ideal S16x2048x4888 .f32) (b : Fin 16) (s : Fin 2048) (d : Fin 1024) :
    LAY6 Y (ix3 b s d) = Y (ix3 b s ⟨2840 + d.val, by omega⟩) := by
  pointwise [LAY6]
  all_goals blk_point []

/-- Result 3: the projection's columns in the layout the call hands them over. -/
def LAY7 (Y : FVec Ideal S16x2048x4888 .f32) : FVec Ideal S16x2048x1024 .f32 :=
  extractStridedSlice S16x2048x1024 ![0, 0, 3864] Y slices_S16x2048x4888_S16x2048x1024_0_0_3864

theorem LAY7_at (Y : FVec Ideal S16x2048x4888 .f32) (b : Fin 16) (s : Fin 2048) (d : Fin 1024) :
    LAY7 Y (ix3 b s d) = Y (ix3 b s ⟨3864 + d.val, by omega⟩) := by
  pointwise [LAY7]
  all_goals blk_point []

/-- Result 4: the projection's columns in the layout the call hands them over. -/
def LAY8 (Y : FVec Ideal S16x2048x4888 .f32) : FVec Ideal S16x8x64x2048 .f32 :=
  transpose S16x8x64x2048 [0, 1, 3, 2] (transpose S16x8x2048x64 [0, 2, 1, 3] (shapeCast _ (extractStridedSlice S16x2048x512 ![0, 0, 0] Y slices_S16x2048x4888_S16x2048x512_0_0_0) shapeCasts_S16x2048x512_S16x2048x8x64) transposes_S16x2048x8x64_S16x8x2048x64_0_2_1_3) transposes_S16x8x2048x64_S16x8x64x2048_0_1_3_2

theorem LAY8_at (Y : FVec Ideal S16x2048x4888 .f32) (b : Fin 16) (h : Fin 8) (d : Fin 64) (s : Fin 2048) :
    LAY8 Y (ix4 b h d s) = Y (ix3 b s ⟨h.val * 64 + d.val, by omega⟩) := by
  pointwise [LAY8]
  all_goals blk_point []

/-- Result 5: the projection's columns in the layout the call hands them over. -/
def LAY9 (Y : FVec Ideal S16x2048x4888 .f32) : FVec Ideal S16x8x64x2048 .f32 :=
  transpose S16x8x64x2048 [0, 1, 3, 2] (transpose S16x8x2048x64 [0, 2, 1, 3] (shapeCast _ (extractStridedSlice S16x2048x512 ![0, 0, 1304] Y slices_S16x2048x4888_S16x2048x512_0_0_1304) shapeCasts_S16x2048x512_S16x2048x8x64) transposes_S16x2048x8x64_S16x8x2048x64_0_2_1_3) transposes_S16x8x2048x64_S16x8x64x2048_0_1_3_2

theorem LAY9_at (Y : FVec Ideal S16x2048x4888 .f32) (b : Fin 16) (h : Fin 8) (d : Fin 64) (s : Fin 2048) :
    LAY9 Y (ix4 b h d s) = Y (ix3 b s ⟨1304 + h.val * 64 + d.val, by omega⟩) := by
  pointwise [LAY9]
  all_goals blk_point []

/-- Result 6: the projection's columns in the layout the call hands them over. -/
def LAY10 (Y : FVec Ideal S16x2048x4888 .f32) : FVec Ideal S16x2x2x16x64x128 .f32 :=
  concatenate S16x2x2x16x64x128 1 [⟨S16x1x2x16x64x128, (broadcastInDim S16x1x2x16x64x128 ![0, 2, 3, 4, 5] bcast_S16x2x16x64x128_S16x1x2x16x64x128_0_2_3_4_5 (transpose S16x2x16x64x128 [0, 3, 1, 4, 2] (shapeCast _ (extractStridedSlice S16x2048x128 ![0, 0, 896] Y slices_S16x2048x4888_S16x2048x128_0_0_896) shapeCasts_S16x2048x128_S16x16x128x2x64) transposes_S16x16x128x2x64_S16x2x16x64x128_0_3_1_4_2))⟩, ⟨S16x1x2x16x64x128, (broadcastInDim S16x1x2x16x64x128 ![0, 2, 3, 4, 5] bcast_S16x2x16x64x128_S16x1x2x16x64x128_0_2_3_4_5 (transpose S16x2x16x64x128 [0, 3, 1, 4, 2] (shapeCast _ (extractStridedSlice S16x2048x128 ![0, 0, 1152] Y slices_S16x2048x4888_S16x2048x128_0_0_1152) shapeCasts_S16x2048x128_S16x16x128x2x64) transposes_S16x16x128x2x64_S16x2x16x64x128_0_3_1_4_2))⟩] concatenates_S16x1x2x16x64x128_S16x1x2x16x64x128_S16x2x2x16x64x128_d1

theorem LAY10_at (Y : FVec Ideal S16x2048x4888 .f32) (b : Fin 16) (a : Fin 2) (h : Fin 2) (n : Fin 16) (d : Fin 64) (l : Fin 128) :
    LAY10 Y (ix6 b a h n d l) = Y (ix3 b ⟨n.val * 128 + l.val, by omega⟩ ⟨896 + a.val * 256 + h.val * 64 + d.val, by omega⟩) := by
  pointwise [LAY10]
  all_goals blk_point []

/-- Result 7: the projection's columns in the layout the call hands them over. -/
def LAY11 (Y : FVec Ideal S16x2048x4888 .f32) : FVec Ideal S16x8x16x64x128 .f32 :=
  transpose S16x8x16x64x128 [0, 3, 1, 4, 2] (shapeCast _ (extractStridedSlice S16x2048x512 ![0, 0, 2328] Y slices_S16x2048x4888_S16x2048x512_0_0_2328) shapeCasts_S16x2048x512_S16x16x128x8x64) transposes_S16x16x128x8x64_S16x8x16x64x128_0_3_1_4_2

theorem LAY11_at (Y : FVec Ideal S16x2048x4888 .f32) (b : Fin 16) (h : Fin 8) (n : Fin 16) (d : Fin 64) (l : Fin 128) :
    LAY11 Y (ix5 b h n d l) = Y (ix3 b ⟨n.val * 128 + l.val, by omega⟩ ⟨2328 + h.val * 64 + d.val, by omega⟩) := by
  pointwise [LAY11]
  all_goals blk_point []

/-- Result 8: the projection's columns in the layout the call hands them over. -/
def LAY12 (Y : FVec Ideal S16x2048x4888 .f32) : FVec Ideal S16x2x16x2048 .f32 :=
  transpose S16x2x16x2048 [0, 2, 3, 1] (pad S16x2048x2x16 ![0, 0, 0, 0] ![0, 0, 0, 4] ![0, 0, 0, 0] (shapeCast _ (extractStridedSlice S16x2048x24 ![0, 0, 1280] Y slices_S16x2048x4888_S16x2048x24_0_0_1280) shapeCasts_S16x2048x24_S16x2048x2x12) (sitofp .f32 (constantI S_ 32 0#32)) pads_S16x2048x2x12_S16x2048x2x16_000_000_000_040 h_S_) transposes_S16x2048x2x16_S16x2x16x2048_0_2_3_1

/-- Beyond the twelve gate columns of a group stand zeros. -/
theorem LAY12_at (Y : FVec Ideal S16x2048x4888 .f32) (b : Fin 16) (h : Fin 2) (e : Fin 16) (s : Fin 2048) :
    LAY12 Y (ix4 b h e s) = if he : e.val < 12 then Y (ix3 b s ⟨1280 + h.val * 12 + e.val, by omega⟩) else (0 : EReal) := by
  pointwise [LAY12]
  all_goals blk_point []
  all_goals first | (exfalso; omega) | skip
  all_goals (first | exact Eq.symm HalfStep.zeroI | exact HalfStep.zeroI)

end Cert.InprojRefIdeal.RowValue

namespace Cert.InprojIdeal.RowValue

open Cert.InprojIdeal Cert.InprojIdeal.Gen

theorem hb_at (x0 : FVec Ideal S1x512x1024 .f32) (x1 : FVec Ideal S1x1024 .f32) (x2 : FVec Ideal S1024x3072 .bf16)
    (x3 : FVec Ideal S1824x1024 .bf16) (r : Fin 512) (k : Fin 1024) :
    k0_pay102 (F := Ideal) x0 x1 x2 x3 (ix2 r k)
      = HalfStep.nrm (fun k => x0 (ix3 0 r k)) (fun k => x1 (ix2 0 k)) k := by
  pointwise [k0_pay102, k0_pay2, HalfStep.nrm]

theorem kv_at (x0 : FVec Ideal S1x512x1024 .f32) (x1 : FVec Ideal S1x1024 .f32) (x2 : FVec Ideal S1024x3072 .bf16)
    (x3 : FVec Ideal S1824x1024 .bf16) (r : Fin 512) (j : Fin 512) :
    k0_pay103 (F := Ideal) x0 x1 x2 x3 (ix2 r j)
      = HalfStep.prj (fun k => x0 (ix3 0 r k)) (fun k => x1 (ix2 0 k)) (fun k => x2 (ix2 k ⟨j.val, by omega⟩)) := by
  pointwise [k0_pay103, k0_pay3, HalfStep.prj]
  exact Finset.sum_congr rfl fun k _ => congrArg (· * _) (hb_at x0 x1 x2 x3 r k)

theorem km_at (x0 : FVec Ideal S1x512x1024 .f32) (x1 : FVec Ideal S1x1024 .f32) (x2 : FVec Ideal S1024x3072 .bf16)
    (x3 : FVec Ideal S1824x1024 .bf16) (r : Fin 512) (j : Fin 512) :
    k0_pay104 (F := Ideal) x0 x1 x2 x3 (ix2 r j)
      = HalfStep.prj (fun k => x0 (ix3 0 r k)) (fun k => x1 (ix2 0 k)) (fun k => x2 (ix2 k ⟨512 + j.val, by omega⟩)) := by
  pointwise [k0_pay104, k0_pay13, hb_at, HalfStep.prj]

theorem qn_at (x0 : FVec Ideal S1x512x1024 .f32) (x1 : FVec Ideal S1x1024 .f32) (x2 : FVec Ideal S1024x3072 .bf16)
    (x3 : FVec Ideal S1824x1024 .bf16) (r : Fin 512) (j : Fin 512) :
    k0_pay105 (F := Ideal) x0 x1 x2 x3 (ix2 j r)
      = HalfStep.prj (fun k => x0 (ix3 0 r k)) (fun k => x1 (ix2 0 k)) (fun k => x3 (ix2 ⟨j.val, by omega⟩ k)) := by
  pointwise [k0_pay105, k0_pay26, hb_at, HalfStep.prj]
  exact Finset.sum_congr rfl fun k _ => mul_comm _ _

theorem qm_at (x0 : FVec Ideal S1x512x1024 .f32) (x1 : FVec Ideal S1x1024 .f32) (x2 : FVec Ideal S1024x3072 .bf16)
    (x3 : FVec Ideal S1824x1024 .bf16) (r : Fin 512) (j : Fin 512) :
    k0_pay36 (F := Ideal) (k0_pay102 x0 x1 x2 x3) (k0_pay107 x0 x1 x2 x3) (k0_pay106 x0 x1 x2 x3) (ix2 j r)
      = HalfStep.prj (fun k => x0 (ix3 0 r k)) (fun k => x1 (ix2 0 k)) (fun k => x3 (ix2 ⟨512 + j.val, by omega⟩ k)) := by
  pointwise [k0_pay36, k0_pay107, k0_pay35, k0_pay106, hb_at, HalfStep.prj]
  exact Finset.sum_congr rfl fun k _ => mul_comm _ _

theorem v_at (x0 : FVec Ideal S1x512x1024 .f32) (x1 : FVec Ideal S1x1024 .f32) (x2 : FVec Ideal S1024x3072 .bf16)
    (x3 : FVec Ideal S1824x1024 .bf16) (r : Fin 512) (j : Fin 256) :
    k0_pay108 (F := Ideal) x0 x1 x2 x3 (ix2 j r)
      = HalfStep.prj (fun k => x0 (ix3 0 r k)) (fun k => x1 (ix2 0 k)) (fun k => x3 (ix2 ⟨1024 + j.val, by omega⟩ k)) := by
  pointwise [k0_pay108, k0_pay46, hb_at, HalfStep.prj]
  exact Finset.sum_congr rfl fun k _ => mul_comm _ _

theorem vm_at (x0 : FVec Ideal S1x512x1024 .f32) (x1 : FVec Ideal S1x1024 .f32) (x2 : FVec Ideal S1024x3072 .bf16)
    (x3 : FVec Ideal S1824x1024 .bf16) (r : Fin 512) (j : Fin 512) :
    k0_pay109 (F := Ideal) x0 x1 x2 x3 (ix2 j r)
      = HalfStep.prj (fun k => x0 (ix3 0 r k)) (fun k => x1 (ix2 0 k)) (fun k => x3 (ix2 ⟨1280 + j.val, by omega⟩ k)) := by
  pointwise [k0_pay109, k0_pay66, hb_at, HalfStep.prj]
  exact Finset.sum_congr rfl fun k _ => mul_comm _ _

theorem w_kv (m : (ℓ : Loc nD τ sig) → Buf (Elt Ideal) ℓ) (c : Dev nD) (k : Fin 1024) (j : Fin 512) :
    V m c main_v19 (ix2 k ⟨j.val, by omega⟩) = m ((c.tc : Thread nD τ).loc main_arg2) (ix2 k ⟨512 + j.val + j.val / 384 * 128, by omega⟩) := by
  simp only [V, hostOps0, hostOps0_1, hostOps0_2, List.flatten_cons, List.flatten_nil, List.cons_append,
    List.nil_append, List.append_nil, StableHlo.TRef.binary, StableHlo.TRef.unary, StableHlo.TRef.toBuf,
    StableHlo.TRef.ofBuf, cast_eq]
  after_results_simp
  pointwise
  after_results_simp
  pointwise
  all_goals blk_point []
  all_goals (exfalso; omega)

theorem w_km (m : (ℓ : Loc nD τ sig) → Buf (Elt Ideal) ℓ) (c : Dev nD) (k : Fin 1024) (j : Fin 512) :
    V m c main_v19 (ix2 k ⟨512 + j.val, by omega⟩) = m ((c.tc : Thread nD τ).loc main_arg2) (ix2 k ⟨1816 + j.val, by omega⟩) := by
  simp only [V, hostOps0, hostOps0_1, hostOps0_2, List.flatten_cons, List.flatten_nil, List.cons_append,
    List.nil_append, List.append_nil, StableHlo.TRef.binary, StableHlo.TRef.unary, StableHlo.TRef.toBuf,
    StableHlo.TRef.ofBuf, cast_eq]
  after_results_simp
  pointwise
  after_results_simp
  pointwise
  all_goals blk_point []
  all_goals (exfalso; omega)

theorem w_gn (m : (ℓ : Loc nD τ sig) → Buf (Elt Ideal) ℓ) (c : Dev nD) (k : Fin 1024) (j : Fin 1024) :
    V m c main_v19 (ix2 k ⟨1024 + j.val, by omega⟩) = m ((c.tc : Thread nD τ).loc main_arg2) (ix2 k ⟨2840 + j.val, by omega⟩) := by
  simp only [V, hostOps0, hostOps0_1, hostOps0_2, List.flatten_cons, List.flatten_nil, List.cons_append,
    List.nil_append, List.append_nil, StableHlo.TRef.binary, StableHlo.TRef.unary, StableHlo.TRef.toBuf,
    StableHlo.TRef.ofBuf, cast_eq]
  after_results_simp
  pointwise
  after_results_simp
  pointwise
  all_goals blk_point []
  all_goals (exfalso; omega)

theorem w_gm (m : (ℓ : Loc nD τ sig) → Buf (Elt Ideal) ℓ) (c : Dev nD) (k : Fin 1024) (j : Fin 1024) :
    V m c main_v19 (ix2 k ⟨2048 + j.val, by omega⟩) = m ((c.tc : Thread nD τ).loc main_arg2) (ix2 k ⟨3864 + j.val, by omega⟩) := by
  simp only [V, hostOps0, hostOps0_1, hostOps0_2, List.flatten_cons, List.flatten_nil, List.cons_append,
    List.nil_append, List.append_nil, StableHlo.TRef.binary, StableHlo.TRef.unary, StableHlo.TRef.toBuf,
    StableHlo.TRef.ofBuf, cast_eq]
  after_results_simp
  pointwise
  after_results_simp
  pointwise
  all_goals blk_point []
  all_goals (exfalso; omega)

theorem w_qn (m : (ℓ : Loc nD τ sig) → Buf (Elt Ideal) ℓ) (c : Dev nD) (k : Fin 1024) (j : Fin 512) :
    V m c main_v20 (ix2 ⟨j.val, by omega⟩ k) = m ((c.tc : Thread nD τ).loc main_arg2) (ix2 k ⟨j.val, by omega⟩) := by
  simp only [V, hostOps0, hostOps0_1, hostOps0_2, List.flatten_cons, List.flatten_nil, List.cons_append,
    List.nil_append, List.append_nil, StableHlo.TRef.binary, StableHlo.TRef.unary, StableHlo.TRef.toBuf,
    StableHlo.TRef.ofBuf, cast_eq]
  after_results_simp
  pointwise
  after_results_simp
  pointwise
  all_goals blk_point []
  all_goals (exfalso; omega)

theorem w_qm (m : (ℓ : Loc nD τ sig) → Buf (Elt Ideal) ℓ) (c : Dev nD) (k : Fin 1024) (j : Fin 512) :
    V m c main_v20 (ix2 ⟨512 + j.val, by omega⟩ k) = m ((c.tc : Thread nD τ).loc main_arg2) (ix2 k ⟨1304 + j.val, by omega⟩) := by
  simp only [V, hostOps0, hostOps0_1, hostOps0_2, List.flatten_cons, List.flatten_nil, List.cons_append,
    List.nil_append, List.append_nil, StableHlo.TRef.binary, StableHlo.TRef.unary, StableHlo.TRef.toBuf,
    StableHlo.TRef.ofBuf, cast_eq]
  after_results_simp
  pointwise
  after_results_simp
  pointwise
  all_goals blk_point []
  all_goals (exfalso; omega)

theorem w_v (m : (ℓ : Loc nD τ sig) → Buf (Elt Ideal) ℓ) (c : Dev nD) (k : Fin 1024) (j : Fin 256) :
    V m c main_v20 (ix2 ⟨1024 + j.val, by omega⟩ k) = m ((c.tc : Thread nD τ).loc main_arg2) (ix2 k ⟨896 + j.val + j.val / 128 * 128, by omega⟩) := by
  simp only [V, hostOps0, hostOps0_1, hostOps0_2, List.flatten_cons, List.flatten_nil, List.cons_append,
    List.nil_append, List.append_nil, StableHlo.TRef.binary, StableHlo.TRef.unary, StableHlo.TRef.toBuf,
    StableHlo.TRef.ofBuf, cast_eq]
  after_results_simp
  pointwise
  after_results_simp
  pointwise
  all_goals blk_point []
  all_goals (exfalso; omega)

theorem w_vm (m : (ℓ : Loc nD τ sig) → Buf (Elt Ideal) ℓ) (c : Dev nD) (k : Fin 1024) (j : Fin 512) :
    V m c main_v20 (ix2 ⟨1280 + j.val, by omega⟩ k) = m ((c.tc : Thread nD τ).loc main_arg2) (ix2 k ⟨2328 + j.val, by omega⟩) := by
  simp only [V, hostOps0, hostOps0_1, hostOps0_2, List.flatten_cons, List.flatten_nil, List.cons_append,
    List.nil_append, List.append_nil, StableHlo.TRef.binary, StableHlo.TRef.unary, StableHlo.TRef.toBuf,
    StableHlo.TRef.ofBuf, cast_eq]
  after_results_simp
  pointwise
  after_results_simp
  pointwise
  all_goals blk_point []
  all_goals (exfalso; omega)

theorem w_g (m : (ℓ : Loc nD τ sig) → Buf (Elt Ideal) ℓ) (c : Dev nD) (k : Fin 1024) (h : Fin 2) (e : Fin 16) :
    V m c main_v20 (ix2 ⟨1792 + h.val * 16 + e.val, by omega⟩ k)
      = if he : e.val < 12 then m ((c.tc : Thread nD τ).loc main_arg2) (ix2 k ⟨1280 + h.val * 12 + e.val, by omega⟩) else (0 : EReal) := by
  simp only [V, hostOps0, hostOps0_1, hostOps0_2, List.flatten_cons, List.flatten_nil, List.cons_append,
    List.nil_append, List.append_nil, StableHlo.TRef.binary, StableHlo.TRef.unary, StableHlo.TRef.toBuf,
    StableHlo.TRef.ofBuf, cast_eq]
  after_results_simp
  pointwise
  after_results_simp
  pointwise
  all_goals blk_point []
  all_goals first | (exfalso; omega) | skip
  all_goals (first | exact Eq.symm HalfStep.zeroI | exact HalfStep.zeroI)

end Cert.InprojIdeal.RowValue

end
-- ==== Proof.InprojPoint.lean ====
/- The input projection: each of its nine result arrays is the plain formula, block by block. -/
module

public import proofs.«01_k».proof.Proof.InprojValue

@[expose] public section

set_option maxRecDepth 16384

noncomputable section

open Idealize.ShloMosaic Idealize.ShloMosaic.TcCoe Idealize.SL.Sem

namespace Cert.InprojIdeal.RowValue

open Cert.InprojIdeal Cert.InprojIdeal.Gen

theorem prj_congr {x x' g g' w w' : Fin 1024 → EReal} (hx : ∀ k, x k = x' k) (hg : ∀ k, g k = g' k)
    (hw : ∀ k, w k = w' k) : HalfStep.prj x g w = HalfStep.prj x' g' w' := by
  rw [funext hx, funext hg, funext hw]

theorem idx : ∀ t : Fin cfg0.N, win0_0.index t = ![t.val / 4, t.val % 4, 0]
    ∧ win0_1.index t = ![0, 0]
    ∧ win0_2.index t = ![0, 0]
    ∧ win0_3.index t = ![0, 0]
    ∧ win0_4.index t = ![t.val / 4, 0, 0, t.val % 4, 0]
    ∧ win0_5.index t = ![t.val / 4, 0, t.val % 4, 0]
    ∧ win0_6.index t = ![t.val / 4, t.val % 4, 0]
    ∧ win0_7.index t = ![t.val / 4, t.val % 4, 0]
    ∧ win0_8.index t = ![t.val / 4, 0, 0, t.val % 4]
    ∧ win0_9.index t = ![t.val / 4, 0, 0, t.val % 4]
    ∧ win0_10.index t = ![t.val / 4, 0, 0, t.val % 4, 0, 0]
    ∧ win0_11.index t = ![t.val / 4, 0, t.val % 4, 0, 0]
    ∧ win0_12.index t = ![t.val / 4, 0, 0, t.val % 4] :=
  (by decide +kernel : ∀ t : Fin grid0.N, _)

variable (m : (ℓ : Loc nD τ sig) → Buf (Elt Ideal) ℓ)

theorem readX (c : Dev nD) (t : Fin cfg0.N) (r : Fin 512) (k : Fin 1024) (b : Fin 16) (s : Fin 2048)
    (hb : b.val = t.val / 4) (hs : s.val = t.val % 4 * 512 + r.val) :
    iblk m c 0 t (ix3 0 r k) = m ((c.tc : Thread nD τ).loc main_arg0) (ix3 b s k) := by
  have e : iblk m c 0 t (ix3 0 r k) = V m c main_arg0 (ix3 b s k) := by
    unfold iblk
    blk_ext [idx t]
  rw [e, V_main_arg0]

theorem readG (c : Dev nD) (t : Fin cfg0.N) (k : Fin 1024) :
    iblk m c 1 t (ix2 0 k) = m ((c.tc : Thread nD τ).loc main_arg1) (ix1 k) := by
  have e : iblk m c 1 t (ix2 0 k) = V m c main_v21 (ix2 0 k) := by
    unfold iblk
    blk_ext [idx t]
  rw [e]
  simp only [V, hostOps0, hostOps0_1, hostOps0_2, List.flatten_cons, List.flatten_nil, List.cons_append,
    List.nil_append, List.append_nil, StableHlo.TRef.binary, StableHlo.TRef.unary, StableHlo.TRef.toBuf,
    StableHlo.TRef.ofBuf, cast_eq]
  after_results_simp
  pointwise
  all_goals blk_point []

theorem readP (c : Dev nD) (t : Fin cfg0.N) (k : Fin 1024) (p : Fin 3072) :
    iblk m c 2 t (ix2 k p) = V m c main_v19 (ix2 k p) := by
  unfold iblk
  blk_ext [idx t]

theorem readT (c : Dev nD) (t : Fin cfg0.N) (k : Fin 1024) (p : Fin 1824) :
    iblk m c 3 t (ix2 p k) = V m c main_v20 (ix2 p k) := by
  unfold iblk
  blk_ext [idx t]

theorem core_kv (c : Dev nD) (t : Fin cfg0.N) (r : Fin 512) (j : Fin 512) (b : Fin 16) (s : Fin 2048) (q : Fin 4888)
    (hb : b.val = t.val / 4) (hs : s.val = t.val % 4 * 512 + r.val) (hq : q.val = 512 + j.val + j.val / 384 * 128) :
    k0_pay103 (F := Ideal) (iblk m c 0 t) (iblk m c 1 t) (iblk m c 2 t) (iblk m c 3 t) (ix2 r j) = InprojRefIdeal.RowValue.PROJ (m ((c.tc : Thread nD τ).loc main_arg0)) (m ((c.tc : Thread nD τ).loc main_arg1)) (m ((c.tc : Thread nD τ).loc main_arg2)) (ix3 b s q) := by
  have e : ∀ h, (⟨512 + j.val + j.val / 384 * 128, h⟩ : Fin 4888) = q := fun h => Fin.ext hq.symm
  rw [kv_at, InprojRefIdeal.RowValue.PROJ_at]
  exact prj_congr (fun k => readX m c t r k b s hb hs) (fun k => readG m c t k)
    fun k => (readP m c t k _).trans ((w_kv m c k j).trans (by rw [e]))

theorem core_km (c : Dev nD) (t : Fin cfg0.N) (r : Fin 512) (j : Fin 512) (b : Fin 16) (s : Fin 2048) (q : Fin 4888)
    (hb : b.val = t.val / 4) (hs : s.val = t.val % 4 * 512 + r.val) (hq : q.val = 1816 + j.val) :
    k0_pay104 (F := Ideal) (iblk m c 0 t) (iblk m c 1 t) (iblk m c 2 t) (iblk m c 3 t) (ix2 r j) = InprojRefIdeal.RowValue.PROJ (m ((c.tc : Thread nD τ).loc main_arg0)) (m ((c.tc : Thread nD τ).loc main_arg1)) (m ((c.tc : Thread nD τ).loc main_arg2)) (ix3 b s q) := by
  have e : ∀ h, (⟨1816 + j.val, h⟩ : Fin 4888) = q := fun h => Fin.ext hq.symm
  rw [km_at, InprojRefIdeal.RowValue.PROJ_at]
  exact prj_congr (fun k => readX m c t r k b s hb hs) (fun k => readG m c t k)
    fun k => (readP m c t k _).trans ((w_km m c k j).trans (by rw [e]))

theorem core_qn (c : Dev nD) (t : Fin cfg0.N) (r : Fin 512) (j : Fin 512) (b : Fin 16) (s : Fin 2048) (q : Fin 4888)
    (hb : b.val = t.val / 4) (hs : s.val = t.val % 4 * 512 + r.val) (hq : q.val = j.val) :
    k0_pay105 (F := Ideal) (iblk m c 0 t) (iblk m c 1 t) (iblk m c 2 t) (iblk m c 3 t) (ix2 j r) = InprojRefIdeal.RowValue.PROJ (m ((c.tc : Thread nD τ).loc main_arg0)) (m ((c.tc : Thread nD τ).loc main_arg1)) (m ((c.tc : Thread nD τ).loc main_arg2)) (ix3 b s q) := by
  have e : ∀ h, (⟨j.val, h⟩ : Fin 4888) = q := fun h => Fin.ext hq.symm
  rw [qn_at, InprojRefIdeal.RowValue.PROJ_at]
  exact prj_congr (fun k => readX m c t r k b s hb hs) (fun k => readG m c t k)
    fun k => (readT m c t k _).trans ((w_qn m c k j).trans (by rw [e]))

theorem core_qm (c : Dev nD) (t : Fin cfg0.N) (r : Fin 512) (j : Fin 512) (b : Fin 16) (s : Fin 2048) (q : Fin 4888)
    (hb : b.val = t.val / 4) (hs : s.val = t.val % 4 * 512 + r.val) (hq : q.val = 1304 + j.val) :
    k0_pay36 (F := Ideal) (k0_pay102 (iblk m c 0 t) (iblk m c 1 t) (iblk m c 2 t) (iblk m c 3 t)) (k0_pay107 (iblk m c 0 t) (iblk m c 1 t) (iblk m c 2 t) (iblk m c 3 t)) (k0_pay106 (iblk m c 0 t) (iblk m c 1 t) (iblk m c 2 t) (iblk m c 3 t)) (ix2 j r) = InprojRefIdeal.RowValue.PROJ (m ((c.tc : Thread nD τ).loc main_arg0)) (m ((c.tc : Thread nD τ).loc main_arg1)) (m ((c.tc : Thread nD τ).loc main_arg2)) (ix3 b s q) := by
  have e : ∀ h, (⟨1304 + j.val, h⟩ : Fin 4888) = q := fun h => Fin.ext hq.symm
  rw [qm_at, InprojRefIdeal.RowValue.PROJ_at]
  exact prj_congr (fun k => readX m c t r k b s hb hs) (fun k => readG m c t k)
    fun k => (readT m c t k _).trans ((w_qm m c k j).trans (by rw [e]))

theorem core_v (c : Dev nD) (t : Fin cfg0.N) (r : Fin 512) (j : Fin 256) (b : Fin 16) (s : Fin 2048) (q : Fin 4888)
    (hb : b.val = t.val / 4) (hs : s.val = t.val % 4 * 512 + r.val) (hq : q.val = 896 + j.val + j.val / 128 * 128) :
    k0_pay108 (F := Ideal) (iblk m c 0 t) (iblk m c 1 t) (iblk m c 2 t) (iblk m c 3 t) (ix2 j r) = InprojRefIdeal.RowValue.PROJ (m ((c.tc : Thread nD τ).loc main_arg0)) (m ((c.tc : Thread nD τ).loc main_arg1)) (m ((c.tc : Thread nD τ).loc main_arg2)) (ix3 b s q) := by
  have e : ∀ h, (⟨896 + j.val + j.val / 128 * 128, h⟩ : Fin 4888) = q := fun h => Fin.ext hq.symm
  rw [v_at, InprojRefIdeal.RowValue.PROJ_at]
  exact prj_congr (fun k => readX m c t r k b s hb hs) (fun k => readG m c t k)
    fun k => (readT m c t k _).trans ((w_v m c k j).trans (by rw [e]))

theorem core_vm (c : Dev nD) (t : Fin cfg0.N) (r : Fin 512) (j : Fin 512) (b : Fin 16) (s : Fin 2048) (q : Fin 4888)
    (hb : b.val = t.val / 4) (hs : s.val = t.val % 4 * 512 + r.val) (hq : q.val = 2328 + j.val) :
    k0_pay109 (F := Ideal) (iblk m c 0 t) (iblk m c 1 t) (iblk m c 2 t) (iblk m c 3 t) (ix2 j r) = InprojRefIdeal.RowValue.PROJ (m ((c.tc : Thread nD τ).loc main_arg0)) (m ((c.tc : Thread nD τ).loc main_arg1)) (m ((c.tc : Thread nD τ).loc main_arg2)) (ix3 b s q) := by
  have e : ∀ h, (⟨2328 + j.val, h⟩ : Fin 4888) = q := fun h => Fin.ext hq.symm
  rw [vm_at, InprojRefIdeal.RowValue.PROJ_at]
  exact prj_congr (fun k => readX m c t r k b s hb hs) (fun k => readG m c t k)
    fun k => (readT m c t k _).trans ((w_vm m c k j).trans (by rw [e]))

theorem point4 (c : Dev nD) (t : Fin cfg0.N) (y : S1x4x2x512x64.Idx) :
    out0_4 (F := Ideal) (iblk m c 0 t) (iblk m c 1 t) (iblk m c 2 t) (iblk m c 3 t) y
      = InprojRefIdeal.RowValue.LAY4 (InprojRefIdeal.RowValue.PROJ (m ((c.tc : Thread nD τ).loc main_arg0)) (m ((c.tc : Thread nD τ).loc main_arg1)) (m ((c.tc : Thread nD τ).loc main_arg2))) (((cfg0.win 4).blk t).view.emb y) := by
  idx_vars y
  rw [eq_ix5 (((cfg0.win 4).blk t).view.emb (ix5 y0 y1 y2 y3 y4))]
  refine Eq.trans ?_ (InprojRefIdeal.RowValue.LAY4_at _ _ _ _ _ _).symm
  refine Eq.trans (b := k0_pay103 (F := Ideal) (iblk m c 0 t) (iblk m c 1 t) (iblk m c 2 t) (iblk m c 3 t) (ix2 y3 ⟨y1.val * 128 + y2.val * 64 + y4.val, by omega⟩)) ?_
    (core_kv m c t _ _ _ _ _ ?_ ?_ ?_)
  · unfold out0_4
    have e0 : (((ix5 y0 y1 y2 y3 y4 : S1x4x2x512x64.Idx) 0 : Fin _) : ℕ) = y0.val := rfl
    have e1 : (((ix5 y0 y1 y2 y3 y4 : S1x4x2x512x64.Idx) 1 : Fin _) : ℕ) = y1.val := rfl
    have e2 : (((ix5 y0 y1 y2 y3 y4 : S1x4x2x512x64.Idx) 2 : Fin _) : ℕ) = y2.val := rfl
    have e3 : (((ix5 y0 y1 y2 y3 y4 : S1x4x2x512x64.Idx) 3 : Fin _) : ℕ) = y3.val := rfl
    have e4 : (((ix5 y0 y1 y2 y3 y4 : S1x4x2x512x64.Idx) 4 : Fin _) : ℕ) = y4.val := rfl
    canon_tiles x h
    all_goals first
      | (generalize k0_pay103 (F := Ideal) (iblk m c 0 t) (iblk m c 1 t) (iblk m c 2 t) (iblk m c 3 t) = T; open_payloads; pointwise; blk_ext; done)
      | (open_payloads; pointwise [k0_pay103, k0_pay3, k0_pay102, k0_pay2]; blk_point []; done)
  all_goals (blk_simp [idx t] <;> (try dsimp only) <;> try omega)

theorem final4 (c : Dev nD) : (dats m 0 c).arrAt 4 (cfgs 0).N
    = InprojRefIdeal.RowValue.LAY4 (InprojRefIdeal.RowValue.PROJ (m ((c.tc : Thread nD τ).loc main_arg0)) (m ((c.tc : Thread nD τ).loc main_arg1)) (m ((c.tc : Thread nD τ).loc main_arg2))) := by
  refine (dats m 0 c).arrAt_eq_of_covers 4 _ (by decide +kernel) fun t _ y => ?_
  blk_simp
  rw [after0_4]
  exact point4 m c t y

theorem point5 (c : Dev nD) (t : Fin cfg0.N) (y : S1x8x512x64.Idx) :
    out0_5 (F := Ideal) (iblk m c 0 t) (iblk m c 1 t) (iblk m c 2 t) (iblk m c 3 t) y
      = InprojRefIdeal.RowValue.LAY5 (InprojRefIdeal.RowValue.PROJ (m ((c.tc : Thread nD τ).loc main_arg0)) (m ((c.tc : Thread nD τ).loc main_arg1)) (m ((c.tc : Thread nD τ).loc main_arg2))) (((cfg0.win 5).blk t).view.emb y) := by
  idx_vars y
  rw [eq_ix4 (((cfg0.win 5).blk t).view.emb (ix4 y0 y1 y2 y3))]
  refine Eq.trans ?_ (InprojRefIdeal.RowValue.LAY5_at _ _ _ _ _).symm
  refine Eq.trans (b := k0_pay104 (F := Ideal) (iblk m c 0 t) (iblk m c 1 t) (iblk m c 2 t) (iblk m c 3 t) (ix2 y2 ⟨y1.val * 64 + y3.val, by omega⟩)) ?_
    (core_km m c t _ _ _ _ _ ?_ ?_ ?_)
  · unfold out0_5
    have e0 : (((ix4 y0 y1 y2 y3 : S1x8x512x64.Idx) 0 : Fin _) : ℕ) = y0.val := rfl
    have e1 : (((ix4 y0 y1 y2 y3 : S1x8x512x64.Idx) 1 : Fin _) : ℕ) = y1.val := rfl
    have e2 : (((ix4 y0 y1 y2 y3 : S1x8x512x64.Idx) 2 : Fin _) : ℕ) = y2.val := rfl
    have e3 : (((ix4 y0 y1 y2 y3 : S1x8x512x64.Idx) 3 : Fin _) : ℕ) = y3.val := rfl
    canon_tiles x h
    all_goals first
      | (generalize k0_pay104 (F := Ideal) (iblk m c 0 t) (iblk m c 1 t) (iblk m c 2 t) (iblk m c 3 t) = T; open_payloads; pointwise; blk_ext; done)
      | (open_payloads; pointwise [k0_pay104, k0_pay13, k0_pay102, k0_pay2]; blk_point []; done)
  all_goals (blk_simp [idx t] <;> (try dsimp only) <;> try omega)

theorem final5 (c : Dev nD) : (dats m 0 c).arrAt 5 (cfgs 0).N
    = InprojRefIdeal.RowValue.LAY5 (InprojRefIdeal.RowValue.PROJ (m ((c.tc : Thread nD τ).loc main_arg0)) (m ((c.tc : Thread nD τ).loc main_arg1)) (m ((c.tc : Thread nD τ).loc main_arg2))) := by
  refine (dats m 0 c).arrAt_eq_of_covers 5 _ (by decide +kernel) fun t _ y => ?_
  blk_simp
  rw [after0_5]
  exact point5 m c t y

theorem point8 (c : Dev nD) (t : Fin cfg0.N) (y : S1x8x64x512.Idx) :
    out0_8 (F := Ideal) (iblk m c 0 t) (iblk m c 1 t) (iblk m c 2 t) (iblk m c 3 t) y
      = InprojRefIdeal.RowValue.LAY8 (InprojRefIdeal.RowValue.PROJ (m ((c.tc : Thread nD τ).loc main_arg0)) (m ((c.tc : Thread nD τ).loc main_arg1)) (m ((c.tc : Thread nD τ).loc main_arg2))) (((cfg0.win 8).blk t).view.emb y) := by
  idx_vars y
  rw [eq_ix4 (((cfg0.win 8).blk t).view.emb (ix4 y0 y1 y2 y3))]
  refine Eq.trans ?_ (InprojRefIdeal.RowValue.LAY8_at _ _ _ _ _).symm
  refine Eq.trans (b := k0_pay105 (F := Ideal) (iblk m c 0 t) (iblk m c 1 t) (iblk m c 2 t) (iblk m c 3 t) (ix2 ⟨y1.val * 64 + y2.val, by omega⟩ y3)) ?_
    (core_qn m c t _ _ _ _ _ ?_ ?_ ?_)
  · unfold out0_8
    have e0 : (((ix4 y0 y1 y2 y3 : S1x8x64x512.Idx) 0 : Fin _) : ℕ) = y0.val := rfl
    have e1 : (((ix4 y0 y1 y2 y3 : S1x8x64x512.Idx) 1 : Fin _) : ℕ) = y1.val := rfl
    have e2 : (((ix4 y0 y1 y2 y3 : S1x8x64x512.Idx) 2 : Fin _) : ℕ) = y2.val := rfl
    have e3 : (((ix4 y0 y1 y2 y3 : S1x8x64x512.Idx) 3 : Fin _) : ℕ) = y3.val := rfl
    canon_tiles x h
    all_goals first
      | (generalize k0_pay105 (F := Ideal) (iblk m c 0 t) (iblk m c 1 t) (iblk m c 2 t) (iblk m c 3 t) = T; open_payloads; pointwise; blk_ext; done)
      | (open_payloads; pointwise [k0_pay105, k0_pay26, k0_pay102, k0_pay2]; blk_point []; done)
  all_goals (blk_simp [idx t] <;> (try dsimp only) <;> try omega)

theorem final8 (c : Dev nD) : (dats m 0 c).arrAt 8 (cfgs 0).N
    = InprojRefIdeal.RowValue.LAY8 (InprojRefIdeal.RowValue.PROJ (m ((c.tc : Thread nD τ).loc main_arg0)) (m ((c.tc : Thread nD τ).loc main_arg1)) (m ((c.tc : Thread nD τ).loc main_arg2))) := by
  refine (dats m 0 c).arrAt_eq_of_covers 8 _ (by decide +kernel) fun t _ y => ?_
  blk_simp
  rw [after0_8]
  exact point8 m c t y

theorem point9 (c : Dev nD) (t : Fin cfg0.N) (y : S1x8x64x512.Idx) :
    out0_9 (F := Ideal) (iblk m c 0 t) (iblk m c 1 t) (iblk m c 2 t) (iblk m c 3 t) y
      = InprojRefIdeal.RowValue.LAY9 (InprojRefIdeal.RowValue.PROJ (m ((c.tc : Thread nD τ).loc main_arg0)) (m ((c.tc : Thread nD τ).loc main_arg1)) (m ((c.tc : Thread nD τ).loc main_arg2))) (((cfg0.win 9).blk t).view.emb y) := by
  idx_vars y
  rw [eq_ix4 (((cfg0.win 9).blk t).view.emb (ix4 y0 y1 y2 y3))]
  refine Eq.trans ?_ (InprojRefIdeal.RowValue.LAY9_at _ _ _ _ _).symm
  refine Eq.trans (b := k0_pay36 (F := Ideal) (k0_pay102 (iblk m c 0 t) (iblk m c 1 t) (iblk m c 2 t) (iblk m c 3 t)) (k0_pay107 (iblk m c 0 t) (iblk m c 1 t) (iblk m c 2 t) (iblk m c 3 t)) (k0_pay106 (iblk m c 0 t) (iblk m c 1 t) (iblk m c 2 t) (iblk m c 3 t)) (ix2 ⟨y1.val * 64 + y2.val, by omega⟩ y3)) ?_
    (core_qm m c t _ _ _ _ _ ?_ ?_ ?_)
  · unfold out0_9
    have e0 : (((ix4 y0 y1 y2 y3 : S1x8x64x512.Idx) 0 : Fin _) : ℕ) = y0.val := rfl
    have e1 : (((ix4 y0 y1 y2 y3 : S1x8x64x512.Idx) 1 : Fin _) : ℕ) = y1.val := rfl
    have e2 : (((ix4 y0 y1 y2 y3 : S1x8x64x512.Idx) 2 : Fin _) : ℕ) = y2.val := rfl
    have e3 : (((ix4 y0 y1 y2 y3 : S1x8x64x512.Idx) 3 : Fin _) : ℕ) = y3.val := rfl
    canon_tiles x h
    all_goals first
      | (generalize k0_pay36 (F := Ideal) (k0_pay102 (iblk m c 0 t) (iblk m c 1 t) (iblk m c 2 t) (iblk m c 3 t)) (k0_pay107 (iblk m c 0 t) (iblk m c 1 t) (iblk m c 2 t) (iblk m c 3 t)) (k0_pay106 (iblk m c 0 t) (iblk m c 1 t) (iblk m c 2 t) (iblk m c 3 t)) = T; open_payloads; pointwise; blk_ext; done)
      | (open_payloads; pointwise [k0_pay36, k0_pay107, k0_pay35, k0_pay106, k0_pay102, k0_pay2]; blk_point []; done)
  all_goals (blk_simp [idx t] <;> (try dsimp only) <;> try omega)

theorem final9 (c : Dev nD) : (dats m 0 c).arrAt 9 (cfgs 0).N
    = InprojRefIdeal.RowValue.LAY9 (InprojRefIdeal.RowValue.PROJ (m ((c.tc : Thread nD τ).loc main_arg0)) (m ((c.tc : Thread nD τ).loc main_arg1)) (m ((c.tc : Thread nD τ).loc main_arg2))) := by
  refine (dats m 0 c).arrAt_eq_of_covers 9 _ (by decide +kernel) fun t _ y => ?_
  blk_simp
  rw [after0_9]
  exact point9 m c t y

theorem point10 (c : Dev nD) (t : Fin cfg0.N) (y : S1x2x2x4x64x128.Idx) :
    out0_10 (F := Ideal) (iblk m c 0 t) (iblk m c 1 t) (iblk m c 2 t) (iblk m c 3 t) y
      = InprojRefIdeal.RowValue.LAY10 (InprojRefIdeal.RowValue.PROJ (m ((c.tc : Thread nD τ).loc main_arg0)) (m ((c.tc : Thread nD τ).loc main_arg1)) (m ((c.tc : Thread nD τ).loc main_arg2))) (((cfg0.win 10).blk t).view.emb y) := by
  idx_vars y
  rw [eq_ix6 (((cfg0.win 10).blk t).view.emb (ix6 y0 y1 y2 y3 y4 y5))]
  refine Eq.trans ?_ (InprojRefIdeal.RowValue.LAY10_at _ _ _ _ _ _ _).symm
  refine Eq.trans (b := k0_pay108 (F := Ideal) (iblk m c 0 t) (iblk m c 1 t) (iblk m c 2 t) (iblk m c 3 t) (ix2 ⟨y1.val * 128 + y2.val * 64 + y4.val, by omega⟩ ⟨y3.val * 128 + y5.val, by omega⟩)) ?_
    (core_v m c t _ _ _ _ _ ?_ ?_ ?_)
  · unfold out0_10
    have e0 : (((ix6 y0 y1 y2 y3 y4 y5 : S1x2x2x4x64x128.Idx) 0 : Fin _) : ℕ) = y0.val := rfl
    have e1 : (((ix6 y0 y1 y2 y3 y4 y5 : S1x2x2x4x64x128.Idx) 1 : Fin _) : ℕ) = y1.val := rfl
    have e2 : (((ix6 y0 y1 y2 y3 y4 y5 : S1x2x2x4x64x128.Idx) 2 : Fin _) : ℕ) = y2.val := rfl
    have e3 : (((ix6 y0 y1 y2 y3 y4 y5 : S1x2x2x4x64x128.Idx) 3 : Fin _) : ℕ) = y3.val := rfl
    have e4 : (((ix6 y0 y1 y2 y3 y4 y5 : S1x2x2x4x64x128.Idx) 4 : Fin _) : ℕ) = y4.val := rfl
    have e5 : (((ix6 y0 y1 y2 y3 y4 y5 : S1x2x2x4x64x128.Idx) 5 : Fin _) : ℕ) = y5.val := rfl
    canon_tiles x h
    all_goals first
      | (generalize k0_pay108 (F := Ideal) (iblk m c 0 t) (iblk m c 1 t) (iblk m c 2 t) (iblk m c 3 t) = T; open_payloads; pointwise; blk_ext; done)
      | (open_payloads; pointwise [k0_pay108, k0_pay46, k0_pay102, k0_pay2]; blk_point []; done)
  all_goals (blk_simp [idx t] <;> (try dsimp only) <;> try omega)

theorem final10 (c : Dev nD) : (dats m 0 c).arrAt 10 (cfgs 0).N
    = InprojRefIdeal.RowValue.LAY10 (InprojRefIdeal.RowValue.PROJ (m ((c.tc : Thread nD τ).loc main_arg0)) (m ((c.tc : Thread nD τ).loc main_arg1)) (m ((c.tc : Thread nD τ).loc main_arg2))) := by
  refine (dats m 0 c).arrAt_eq_of_covers 10 _ (by decide +kernel) fun t _ y => ?_
  blk_simp
  rw [after0_10]
  exact point10 m c t y

theorem point11 (c : Dev nD) (t : Fin cfg0.N) (y : S1x8x4x64x128.Idx) :
    out0_11 (F := Ideal) (iblk m c 0 t) (iblk m c 1 t) (iblk m c 2 t) (iblk m c 3 t) y
      = InprojRefIdeal.RowValue.LAY11 (InprojRefIdeal.RowValue.PROJ (m ((c.tc : Thread nD τ).loc main_arg0)) (m ((c.tc : Thread nD τ).loc main_arg1)) (m ((c.tc : Thread nD τ).loc main_arg2))) (((cfg0.win 11).blk t).view.emb y) := by
  idx_vars y
  rw [eq_ix5 (((cfg0.win 11).blk t).view.emb (ix5 y0 y1 y2 y3 y4))]
  refine Eq.trans ?_ (InprojRefIdeal.RowValue.LAY11_at _ _ _ _ _ _).symm
  refine Eq.trans (b := k0_pay109 (F := Ideal) (iblk m c 0 t) (iblk m c 1 t) (iblk m c 2 t) (iblk m c 3 t) (ix2 ⟨y1.val * 64 + y3.val, by omega⟩ ⟨y2.val * 128 + y4.val, by omega⟩)) ?_
    (core_vm m c t _ _ _ _ _ ?_ ?_ ?_)
  · unfold out0_11
    have e0 : (((ix5 y0 y1 y2 y3 y4 : S1x8x4x64x128.Idx) 0 : Fin _) : ℕ) = y0.val := rfl
    have e1 : (((ix5 y0 y1 y2 y3 y4 : S1x8x4x64x128.Idx) 1 : Fin _) : ℕ) = y1.val := rfl
    have e2 : (((ix5 y0 y1 y2 y3 y4 : S1x8x4x64x128.Idx) 2 : Fin _) : ℕ) = y2.val := rfl
    have e3 : (((ix5 y0 y1 y2 y3 y4 : S1x8x4x64x128.Idx) 3 : Fin _) : ℕ) = y3.val := rfl
    have e4 : (((ix5 y0 y1 y2 y3 y4 : S1x8x4x64x128.Idx) 4 : Fin _) : ℕ) = y4.val := rfl
    canon_tiles x h
    all_goals first
      | (generalize k0_pay109 (F := Ideal) (iblk m c 0 t) (iblk m c 1 t) (iblk m c 2 t) (iblk m c 3 t) = T; open_payloads; pointwise; blk_ext; done)
      | (open_payloads; pointwise [k0_pay109, k0_pay66, k0_pay102, k0_pay2]; blk_point []; done)
  all_goals (blk_simp [idx t] <;> (try dsimp only) <;> try omega)

theorem final11 (c : Dev nD) : (dats m 0 c).arrAt 11 (cfgs 0).N
    = InprojRefIdeal.RowValue.LAY11 (InprojRefIdeal.RowValue.PROJ (m ((c.tc : Thread nD τ).loc main_arg0)) (m ((c.tc : Thread nD τ).loc main_arg1)) (m ((c.tc : Thread nD τ).loc main_arg2))) := by
  refine (dats m 0 c).arrAt_eq_of_covers 11 _ (by decide +kernel) fun t _ y => ?_
  blk_simp
  rw [after0_11]
  exact point11 m c t y

theorem out_gn_at (x0 : FVec Ideal S1x512x1024 .f32) (x1 : FVec Ideal S1x1024 .f32) (x2 : FVec Ideal S1024x3072 .bf16)
    (x3 : FVec Ideal S1824x1024 .bf16) (r : Fin 512) (j : Fin 1024) :
    out0_6 (F := Ideal) x0 x1 x2 x3 (ix3 0 r j)
      = HalfStep.prj (fun k => x0 (ix3 0 r k)) (fun k => x1 (ix2 0 k)) (fun k => x2 (ix2 k ⟨1024 + j.val, by omega⟩)) := by
  unfold out0_6
  canon_tiles x h
  obtain rfl : x = ix3 0 r j := (eq_ix3 x).trans ((ix3_inj ..).2 ⟨Subsingleton.elim _ _, Fin.ext h1.symm, Fin.ext h2.symm⟩)
  pointwise [k0_pay24, hb_at, HalfStep.prj]

theorem point6 (c : Dev nD) (t : Fin cfg0.N) (y : S1x512x1024.Idx) :
    out0_6 (F := Ideal) (iblk m c 0 t) (iblk m c 1 t) (iblk m c 2 t) (iblk m c 3 t) y
      = InprojRefIdeal.RowValue.LAY6 (InprojRefIdeal.RowValue.PROJ (m ((c.tc : Thread nD τ).loc main_arg0)) (m ((c.tc : Thread nD τ).loc main_arg1)) (m ((c.tc : Thread nD τ).loc main_arg2))) (((cfg0.win 6).blk t).view.emb y) := by
  idx_vars y
  obtain rfl : y0 = 0 := Subsingleton.elim _ _
  rw [eq_ix3 (((cfg0.win 6).blk t).view.emb (ix3 0 y1 y2))]
  refine Eq.trans ?_ (InprojRefIdeal.RowValue.LAY6_at _ _ _ _).symm
  rw [out_gn_at]
  refine Eq.trans ?_ (InprojRefIdeal.RowValue.PROJ_at _ _ _ _ _ _).symm
  refine prj_congr (fun k => readX m c t y1 k _ _ ?_ ?_) (fun k => readG m c t k)
    fun k => (readP m c t k _).trans ((w_gn m c k y2).trans (congrArg (fun q => m ((c.tc : Thread nD τ).loc main_arg2) (ix2 k q)) (Fin.ext ?_)))
  all_goals (blk_simp [idx t] <;> (try dsimp only) <;> try omega)

theorem final6 (c : Dev nD) : (dats m 0 c).arrAt 6 (cfgs 0).N
    = InprojRefIdeal.RowValue.LAY6 (InprojRefIdeal.RowValue.PROJ (m ((c.tc : Thread nD τ).loc main_arg0)) (m ((c.tc : Thread nD τ).loc main_arg1)) (m ((c.tc : Thread nD τ).loc main_arg2))) := by
  refine (dats m 0 c).arrAt_eq_of_covers 6 _ (by decide +kernel) fun t _ y => ?_
  blk_simp
  rw [after0_6]
  exact point6 m c t y

theorem out_gm_at (x0 : FVec Ideal S1x512x1024 .f32) (x1 : FVec Ideal S1x1024 .f32) (x2 : FVec Ideal S1024x3072 .bf16)
    (x3 : FVec Ideal S1824x1024 .bf16) (r : Fin 512) (j : Fin 1024) :
    out0_7 (F := Ideal) x0 x1 x2 x3 (ix3 0 r j)
      = HalfStep.prj (fun k => x0 (ix3 0 r k)) (fun k => x1 (ix2 0 k)) (fun k => x2 (ix2 k ⟨2048 + j.val, by omega⟩)) := by
  unfold out0_7
  canon_tiles x h
  obtain rfl : x = ix3 0 r j := (eq_ix3 x).trans ((ix3_inj ..).2 ⟨Subsingleton.elim _ _, Fin.ext h1.symm, Fin.ext h2.symm⟩)
  pointwise [k0_pay25, hb_at, HalfStep.prj]

theorem point7 (c : Dev nD) (t : Fin cfg0.N) (y : S1x512x1024.Idx) :
    out0_7 (F := Ideal) (iblk m c 0 t) (iblk m c 1 t) (iblk m c 2 t) (iblk m c 3 t) y
      = InprojRefIdeal.RowValue.LAY7 (InprojRefIdeal.RowValue.PROJ (m ((c.tc : Thread nD τ).loc main_arg0)) (m ((c.tc : Thread nD τ).loc main_arg1)) (m ((c.tc : Thread nD τ).loc main_arg2))) (((cfg0.win 7).blk t).view.emb y) := by
  idx_vars y
  obtain rfl : y0 = 0 := Subsingleton.elim _ _
  rw [eq_ix3 (((cfg0.win 7).blk t).view.emb (ix3 0 y1 y2))]
  refine Eq.trans ?_ (InprojRefIdeal.RowValue.LAY7_at _ _ _ _).symm
  rw [out_gm_at]
  refine Eq.trans ?_ (InprojRefIdeal.RowValue.PROJ_at _ _ _ _ _ _).symm
  refine prj_congr (fun k => readX m c t y1 k _ _ ?_ ?_) (fun k => readG m c t k)
    fun k => (readP m c t k _).trans ((w_gm m c k y2).trans (congrArg (fun q => m ((c.tc : Thread nD τ).loc main_arg2) (ix2 k q)) (Fin.ext ?_)))
  all_goals (blk_simp [idx t] <;> (try dsimp only) <;> try omega)

theorem final7 (c : Dev nD) : (dats m 0 c).arrAt 7 (cfgs 0).N
    = InprojRefIdeal.RowValue.LAY7 (InprojRefIdeal.RowValue.PROJ (m ((c.tc : Thread nD τ).loc main_arg0)) (m ((c.tc : Thread nD τ).loc main_arg1)) (m ((c.tc : Thread nD τ).loc main_arg2))) := by
  refine (dats m 0 c).arrAt_eq_of_covers 7 _ (by decide +kernel) fun t _ y => ?_
  blk_simp
  rw [after0_7]
  exact point7 m c t y

theorem out_g_at (x0 : FVec Ideal S1x512x1024 .f32) (x1 : FVec Ideal S1x1024 .f32) (x2 : FVec Ideal S1024x3072 .bf16)
    (x3 : FVec Ideal S1824x1024 .bf16) (h : Fin 2) (e : Fin 16) (r : Fin 512) :
    out0_12 (F := Ideal) x0 x1 x2 x3 (ix4 0 h e r)
      = HalfStep.prj (fun k => x0 (ix3 0 r k)) (fun k => x1 (ix2 0 k))
          (fun k => x3 (ix2 ⟨1792 + h.val * 16 + e.val, by omega⟩ k)) := by
  have e1 : (((ix4 0 h e r : S1x2x16x512.Idx) 1 : Fin _) : ℕ) = h.val := rfl
  have e2 : (((ix4 0 h e r : S1x2x16x512.Idx) 2 : Fin _) : ℕ) = e.val := rfl
  have e3 : (((ix4 0 h e r : S1x2x16x512.Idx) 3 : Fin _) : ℕ) = r.val := rfl
  unfold out0_12
  canon_tiles x g
  · obtain rfl : x = ix4 0 0 e r := (eq_ix4 x).trans ((ix4_inj ..).2
      ⟨Subsingleton.elim _ _, Subsingleton.elim _ _, Fin.ext (g2.symm.trans e2), Fin.ext (g3.symm.trans e3)⟩)
    obtain rfl : h = 1 := Fin.ext (by
      have q : h.val = 1 + 0 := e1.symm.trans g1
      exact q)
    pointwise [k0_pay1, k0_pay101, k0_pay99, hb_at, HalfStep.prj]
    have q : (⟨1792 + (16 + e.val), by omega⟩ : Fin 1824) = ⟨1808 + e.val, by omega⟩ :=
      Fin.ext (by dsimp only; omega)
    show (_ : EReal) = _
    exact Finset.sum_congr rfl fun k _ => by rw [q]; exact mul_comm _ _
  · obtain rfl : x = ix4 0 0 e r := (eq_ix4 x).trans ((ix4_inj ..).2
      ⟨Subsingleton.elim _ _, Subsingleton.elim _ _, Fin.ext (g2.symm.trans e2), Fin.ext (g3.symm.trans e3)⟩)
    obtain rfl : h = 0 := Fin.ext (by
      have q : h.val = 0 := e1.symm.trans g1
      exact q)
    pointwise [k0_pay100, k0_pay99, hb_at, HalfStep.prj]
    show (_ : EReal) = _
    exact Finset.sum_congr rfl fun k _ => mul_comm _ _

theorem prj_zero (x g : Fin 1024 → EReal) : HalfStep.prj x g (fun _ => 0) = 0 := by
  simp [HalfStep.prj]

theorem point12 (c : Dev nD) (t : Fin cfg0.N) (y : S1x2x16x512.Idx) :
    out0_12 (F := Ideal) (iblk m c 0 t) (iblk m c 1 t) (iblk m c 2 t) (iblk m c 3 t) y
      = InprojRefIdeal.RowValue.LAY12 (InprojRefIdeal.RowValue.PROJ (m ((c.tc : Thread nD τ).loc main_arg0)) (m ((c.tc : Thread nD τ).loc main_arg1)) (m ((c.tc : Thread nD τ).loc main_arg2))) (((cfg0.win 12).blk t).view.emb y) := by
  idx_vars y
  obtain rfl : y0 = 0 := Subsingleton.elim _ _
  rw [eq_ix4 (((cfg0.win 12).blk t).view.emb (ix4 0 y1 y2 y3))]
  refine Eq.trans ?_ (InprojRefIdeal.RowValue.LAY12_at _ _ _ _ _).symm
  have he : ((((cfg0.win 12).blk t).view.emb (ix4 0 y1 y2 y3) 2 : Fin _) : ℕ) = y2.val := by
    blk_simp [idx t] <;> (try dsimp only) <;> try omega
  rw [out_g_at]
  by_cases hc : y2.val < 12
  · rw [dif_pos (show ((((cfg0.win 12).blk t).view.emb (ix4 0 y1 y2 y3) 2 : Fin _) : ℕ) < 12 by rw [he]; exact hc)]
    refine Eq.trans ?_ (InprojRefIdeal.RowValue.PROJ_at _ _ _ _ _ _).symm
    refine prj_congr (fun k => readX m c t y3 k _ _ ?_ ?_) (fun k => readG m c t k)
      fun k => (readT m c t k _).trans ((w_g m c k y1 y2).trans ((dif_pos hc).trans (congrArg (fun q => m ((c.tc : Thread nD τ).loc main_arg2) (ix2 k q)) (Fin.ext ?_))))
    all_goals (blk_simp [idx t] <;> (try dsimp only) <;> try omega)
  · rw [dif_neg (show ¬ ((((cfg0.win 12).blk t).view.emb (ix4 0 y1 y2 y3) 2 : Fin _) : ℕ) < 12 by rw [he]; exact hc)]
    refine Eq.trans (prj_congr (fun k => rfl) (fun k => rfl) fun k => (readT m c t k _).trans ((w_g m c k y1 y2).trans (dif_neg hc))) ?_
    exact prj_zero _ _

theorem final12 (c : Dev nD) : (dats m 0 c).arrAt 12 (cfgs 0).N
    = InprojRefIdeal.RowValue.LAY12 (InprojRefIdeal.RowValue.PROJ (m ((c.tc : Thread nD τ).loc main_arg0)) (m ((c.tc : Thread nD τ).loc main_arg1)) (m ((c.tc : Thread nD τ).loc main_arg2))) := by
  refine (dats m 0 c).arrAt_eq_of_covers 12 _ (by decide +kernel) fun t _ y => ?_
  blk_simp
  rw [after0_12]
  exact point12 m c t y

end Cert.InprojIdeal.RowValue

end
-- ==== Proof.OutprojValue.lean ====
/- The output projection with the second feed-forward half step: its result array is the plain formula. -/
module

public import proofs.«01_k».proof.Proof.Gen.OutprojIdeal.Frame
public import proofs.«01_k».proof.Proof.Gen.OutprojRefIdeal.Run
public import proofs.«01_k».proof.Proof.FfnMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.OutprojRefIdeal.RowValue

open Cert.OutprojRefIdeal Cert.OutprojRefIdeal.Gen

/-- The gated merge of the two mixers, projected and added to the residual, plainly. -/
def MERGE (X : FVec Ideal S16x2048x1024 .f32) (on om : FVec Ideal S16x2048x512 .bf16)
    (gn gm : FVec Ideal S16x2048x1024 .f32) (wun wum : FVec Ideal S512x1024 .f32) (wo : FVec Ideal S1024x1024 .f32)
    : FVec Ideal S16x2048x1024 .f32 :=
  addf X (Host.dotGeneral dot_S16x2048x1024_S1024x1024_S16x2048x1024_2_0_01_1_n_n none (addf (mulf (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf gn)))) (Host.dotGeneral dot_S16x2048x512_S512x1024_S16x2048x1024_2_0_01_1_n_n none (extf .f32 on bitsLt_bf16_f32) wun)) (mulf (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf gm)))) (Host.dotGeneral dot_S16x2048x512_S512x1024_S16x2048x1024_2_0_01_1_n_n none (extf .f32 om bitsLt_bf16_f32) wum))) wo)

/-- The half step of an activation, plainly. -/
def HALF (Y : FVec Ideal S16x2048x1024 .f32) (g : FVec Ideal S1024 .f32) (w1 w3 : FVec Ideal S1024x2816 .f32) (w2 : FVec Ideal S2816x1024 .f32)
    : FVec Ideal S32768x1024 .f32 :=
  shapeCast _ (addf Y (mulf (broadcastInDim S16x2048x1024 ![] bcast_S_S16x2048x1024 (constant S_ .f32 0x3F000000#32)) (Host.dotGeneral dot_S16x2048x2816_S2816x1024_S16x2048x1024_2_0_01_1_n_n none (mulf (mulf (Host.dotGeneral dot_S16x2048x1024_S1024x2816_S16x2048x2816_2_0_01_1_n_n none (mulf (mulf Y (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf Y Y) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) w1) (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf (Host.dotGeneral dot_S16x2048x1024_S1024x2816_S16x2048x2816_2_0_01_1_n_n none (mulf (mulf Y (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf Y Y) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) w1)))))) (Host.dotGeneral dot_S16x2048x1024_S1024x2816_S16x2048x2816_2_0_01_1_n_n none (mulf (mulf Y (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf Y Y) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) w3)) w2))) shapeCasts_S16x2048x1024_S32768x1024

/-- The plain formula's result term is the half step of the merge. -/
theorem res_eq (m : (ℓ : Loc nD τ sig) → Buf (Elt Ideal) ℓ) (c : Dev nD) :
    Value.res_main_v42 m c = HALF (MERGE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      (m ((c.tc : Thread nD τ).loc main_arg8)) (m ((c.tc : Thread nD τ).loc main_arg9)) (m ((c.tc : Thread nD τ).loc main_arg10)) (m ((c.tc : Thread nD τ).loc main_arg11)) := rfl

theorem MERGE_at (X : FVec Ideal S16x2048x1024 .f32) (on om : FVec Ideal S16x2048x512 .bf16)
    (gn gm : FVec Ideal S16x2048x1024 .f32) (wun wum : FVec Ideal S512x1024 .f32) (wo : FVec Ideal S1024x1024 .f32)
    (b : Fin 16) (s : Fin 2048) (k : Fin 1024) :
    MERGE X on om gn gm wun wum wo (ix3 b s k)
      = HalfStep.mrg (fun k => X (ix3 b s k)) (fun k => gn (ix3 b s k)) (fun k => gm (ix3 b s k))
          (fun e => on (ix3 b s e)) (fun e => om (ix3 b s e)) (fun e d => wun (ix2 e d)) (fun e d => wum (ix2 e d))
          (fun d k => wo (ix2 d k)) k := by
  pointwise [MERGE]
  rfl

/-- Each row is the half step of the merged row. -/
theorem HALF_at (Y : FVec Ideal S16x2048x1024 .f32) (g : FVec Ideal S1024 .f32) (w1 w3 : FVec Ideal S1024x2816 .f32) (w2 : FVec Ideal S2816x1024 .f32)
    (r : Fin 32768) (j : Fin 1024) :
    HALF Y g w1 w3 w2 (ix2 r j)
      = HalfStep.row (fun k => Y (ix3 ⟨r.val / 2048, by omega⟩ ⟨r.val % 2048, by omega⟩ k))
          (HalfStep.nrm (fun k => Y (ix3 ⟨r.val / 2048, by omega⟩ ⟨r.val % 2048, by omega⟩ k)) (fun k => g (ix1 k)))
          (fun k p => w1 (ix2 k p)) (fun k p => w3 (ix2 k p)) (fun p l => w2 (ix2 p l)) j := by
  pointwise [HALF]
  rfl

end Cert.OutprojRefIdeal.RowValue

namespace Cert.OutprojIdeal.RowValue

open Cert.OutprojIdeal Cert.OutprojIdeal.Gen

theorem pay2_at (v0 : FVec Ideal S512x1024 .f32) (v3 : FVec Ideal S512x512 .bf16) (v5 : FVec Ideal S512x1024 .bf16)
    (v9 : FVec Ideal S512x1024 .f32) (v12 : FVec Ideal S512x512 .bf16) (v14 : FVec Ideal S512x1024 .bf16)
    (v19 : FVec Ideal S512x1024 .f32) (v22 : FVec Ideal S1024x1024 .bf16) (r : Fin 512) (k : Fin 1024) :
    k0_pay2 (F := Ideal) v0 v3 v5 v9 v12 v14 v19 v22 (ix2 r k)
      = HalfStep.mrg (fun k => v19 (ix2 r k)) (fun k => v0 (ix2 r k)) (fun k => v9 (ix2 r k))
          (fun e => v3 (ix2 r e)) (fun e => v12 (ix2 r e)) (fun e d => v5 (ix2 e d)) (fun e d => v14 (ix2 e d))
          (fun d k => v22 (ix2 d k)) k := by
  pointwise [k0_pay2]
  rfl

/-- The normalised row the block's matrix products read. -/
theorem pay5_at (v0 : FVec Ideal S512x1024 .f32) (v3 : FVec Ideal S512x512 .bf16) (v5 : FVec Ideal S512x1024 .bf16)
    (v9 : FVec Ideal S512x1024 .f32) (v12 : FVec Ideal S512x512 .bf16) (v14 : FVec Ideal S512x1024 .bf16)
    (v19 : FVec Ideal S512x1024 .f32) (v22 : FVec Ideal S1024x1024 .bf16) (g : FVec Ideal S1x1024 .f32)
    (r : Fin 512) (k : Fin 1024) :
    k0_pay5 (F := Ideal) (k0_pay2 v0 v3 v5 v9 v12 v14 v19 v22) (k0_pay3 g) (k0_pay4 v0 v3 v5 v9 v12 v14 v19 v22) (ix2 r k)
      = HalfStep.nrm (fun k => k0_pay2 (F := Ideal) v0 v3 v5 v9 v12 v14 v19 v22 (ix2 r k)) (fun k => g (ix2 0 k)) k := by
  pointwise [k0_pay5, k0_pay4, k0_pay3, HalfStep.nrm]

set_option maxHeartbeats 2000000 in
/-- A written-back block, entry by entry: the half step of the merged row. -/
theorem out_at (x0 : FVec Ideal S512x1024 .f32) (x1 x2 : FVec Ideal S512x512 .bf16) (x3 x4 : FVec Ideal S512x1024 .f32)
    (x5 x6 : FVec Ideal S512x1024 .bf16) (x7 : FVec Ideal S1024x1024 .bf16) (x8 : FVec Ideal S1x1024 .f32)
    (x9 x10 : FVec Ideal S1024x2816 .bf16) (x11 : FVec Ideal S2816x1024 .bf16) (r : Fin 512) (j : Fin 1024) :
    out0_12 (F := Ideal) x0 x1 x2 x3 x4 x5 x6 x7 x8 x9 x10 x11 (ix2 r j)
      = HalfStep.row
          (fun k => HalfStep.mrg (fun k => x0 (ix2 r k)) (fun k => x3 (ix2 r k)) (fun k => x4 (ix2 r k))
            (fun e => x1 (ix2 r e)) (fun e => x2 (ix2 r e)) (fun e d => x5 (ix2 e d)) (fun e d => x6 (ix2 e d))
            (fun d k => x7 (ix2 d k)) k)
          (HalfStep.nrm (fun k => HalfStep.mrg (fun k => x0 (ix2 r k)) (fun k => x3 (ix2 r k)) (fun k => x4 (ix2 r k))
            (fun e => x1 (ix2 r e)) (fun e => x2 (ix2 r e)) (fun e d => x5 (ix2 e d)) (fun e d => x6 (ix2 e d))
            (fun d k => x7 (ix2 d k)) k) (fun k => x8 (ix2 0 k)))
          (fun k p => x9 (ix2 k p)) (fun k p => x10 (ix2 k p)) (fun p l => x11 (ix2 p l)) j := by
  unfold out0_12
  canon_tiles x h
  obtain rfl : x = ix2 r j :=
    (eq_ix2 x).trans ((ix2_inj ..).2 ⟨Fin.ext h0.symm, Fin.ext h1.symm⟩)
  have hM : ∀ k, k0_pay15 (F := Ideal) x0 x1 x2 x3 x4 x5 x6 x7 x8 x9 x10 x11 (ix2 r k)
      = HalfStep.mrg (fun k => x0 (ix2 r k)) (fun k => x3 (ix2 r k)) (fun k => x4 (ix2 r k))
            (fun e => x1 (ix2 r e)) (fun e => x2 (ix2 r e)) (fun e d => x5 (ix2 e d)) (fun e d => x6 (ix2 e d))
            (fun d k => x7 (ix2 d k)) k := by
    intro k
    rw [k0_pay15, pay2_at]
    pointwise [HalfStep.mrg]
  have hH : ∀ k, k0_pay5 (F := Ideal) (k0_pay15 x0 x1 x2 x3 x4 x5 x6 x7 x8 x9 x10 x11)
        (k0_pay16 x0 x1 x2 x3 x4 x5 x6 x7 x8 x9 x10 x11) (k0_pay17 x0 x1 x2 x3 x4 x5 x6 x7 x8 x9 x10 x11) (ix2 r k)
      = HalfStep.nrm (fun k => HalfStep.mrg (fun k => x0 (ix2 r k)) (fun k => x3 (ix2 r k)) (fun k => x4 (ix2 r k))
            (fun e => x1 (ix2 r e)) (fun e => x2 (ix2 r e)) (fun e d => x5 (ix2 e d)) (fun e d => x6 (ix2 e d))
            (fun d k => x7 (ix2 d k)) k) (fun k => x8 (ix2 0 k)) k := by
    intro k
    refine (pay5_at _ _ _ _ _ _ _ _ _ r k).trans ?_
    refine congrArg₂ (fun u v => HalfStep.nrm u v k) (funext fun l => ?_) (funext fun l => ?_)
    · exact hM l
    · pointwise []
  pointwise [k0_pay1, k0_pay6, k0_pay7, k0_pay8, k0_pay9, k0_pay10, k0_pay11, k0_pay12, k0_pay13, k0_pay14, k0_pay18, hM, hH]
  rw [HalfStep.row, ← HalfStep.chunks]
  refine congrArg₂ (· + ·) ?_ (congrArg₂ (· * ·) rfl ?_)
  · rfl
  · rfl

/-- Where each window's block lies at grid point `t`. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![t.val, 0] :=
  (by decide +kernel : ∀ t : Fin grid0.N, _)

variable (m : (ℓ : Loc nD τ sig) → Buf (Elt Ideal) ℓ)

/-- Rows of operand 0, batch by batch. -/
theorem read0 (c : Dev nD) (t : Fin cfg0.N) (y0 : Fin 512) (y1 : Fin 1024) (r : Fin 32768)
    (hr : (((cfg0.win 12).blk t).view.emb (ix2 y0 y1)) 0 = r) (k : Fin 1024) :
    iblk m c 0 t (ix2 y0 k)
      = m ((c.tc : Thread nD τ).loc main_arg0)
          (ix3 ⟨r.val / 2048, by omega⟩ ⟨r.val % 2048, by omega⟩ k) := by
  subst hr
  have e : ((cfg0.win 0).blk t).view.emb (ix2 y0 k)
      = ix2 ((((cfg0.win 12).blk t).view.emb (ix2 y0 y1)) 0) k := by
    blk_ext [idx t]
  have h : ∀ (r : Fin 32768), V m c main_v0 (ix2 r k)
      = m ((c.tc : Thread nD τ).loc main_arg0) (ix3 ⟨r.val / 2048, by omega⟩ ⟨r.val % 2048, by omega⟩ k) := by
    intro r
    entry_read
    pointwise
  exact (congrArg (V m c main_v0) e).trans (h _)

/-- Rows of operand 1, batch by batch. -/
theorem read1 (c : Dev nD) (t : Fin cfg0.N) (y0 : Fin 512) (y1 : Fin 1024) (r : Fin 32768)
    (hr : (((cfg0.win 12).blk t).view.emb (ix2 y0 y1)) 0 = r) (k : Fin 512) :
    iblk m c 1 t (ix2 y0 k)
      = m ((c.tc : Thread nD τ).loc main_arg1)
          (ix3 ⟨r.val / 2048, by omega⟩ ⟨r.val % 2048, by omega⟩ k) := by
  subst hr
  have e : ((cfg0.win 1).blk t).view.emb (ix2 y0 k)
      = ix2 ((((cfg0.win 12).blk t).view.emb (ix2 y0 y1)) 0) k := by
    blk_ext [idx t]
  have h : ∀ (r : Fin 32768), V m c main_v1 (ix2 r k)
      = m ((c.tc : Thread nD τ).loc main_arg1) (ix3 ⟨r.val / 2048, by omega⟩ ⟨r.val % 2048, by omega⟩ k) := by
    intro r
    entry_read
    pointwise
  exact (congrArg (V m c main_v1) e).trans (h _)

/-- Rows of operand 2, batch by batch. -/
theorem read2 (c : Dev nD) (t : Fin cfg0.N) (y0 : Fin 512) (y1 : Fin 1024) (r : Fin 32768)
    (hr : (((cfg0.win 12).blk t).view.emb (ix2 y0 y1)) 0 = r) (k : Fin 512) :
    iblk m c 2 t (ix2 y0 k)
      = m ((c.tc : Thread nD τ).loc main_arg2)
          (ix3 ⟨r.val / 2048, by omega⟩ ⟨r.val % 2048, by omega⟩ k) := by
  subst hr
  have e : ((cfg0.win 2).blk t).view.emb (ix2 y0 k)
      = ix2 ((((cfg0.win 12).blk t).view.emb (ix2 y0 y1)) 0) k := by
    blk_ext [idx t]
  have h : ∀ (r : Fin 32768), V m c main_v2 (ix2 r k)
      = m ((c.tc : Thread nD τ).loc main_arg2) (ix3 ⟨r.val / 2048, by omega⟩ ⟨r.val % 2048, by omega⟩ k) := by
    intro r
    entry_read
    pointwise
  exact (congrArg (V m c main_v2) e).trans (h _)

/-- Rows of operand 3, batch by batch. -/
theorem read3 (c : Dev nD) (t : Fin cfg0.N) (y0 : Fin 512) (y1 : Fin 1024) (r : Fin 32768)
    (hr : (((cfg0.win 12).blk t).view.emb (ix2 y0 y1)) 0 = r) (k : Fin 1024) :
    iblk m c 3 t (ix2 y0 k)
      = m ((c.tc : Thread nD τ).loc main_arg3)
          (ix3 ⟨r.val / 2048, by omega⟩ ⟨r.val % 2048, by omega⟩ k) := by
  subst hr
  have e : ((cfg0.win 3).blk t).view.emb (ix2 y0 k)
      = ix2 ((((cfg0.win 12).blk t).view.emb (ix2 y0 y1)) 0) k := by
    blk_ext [idx t]
  have h : ∀ (r : Fin 32768), V m c main_v3 (ix2 r k)
      = m ((c.tc : Thread nD τ).loc main_arg3) (ix3 ⟨r.val / 2048, by omega⟩ ⟨r.val % 2048, by omega⟩ k) := by
    intro r
    entry_read
    pointwise
  exact (congrArg (V m c main_v3) e).trans (h _)

/-- Rows of operand 4, batch by batch. -/
theorem read4 (c : Dev nD) (t : Fin cfg0.N) (y0 : Fin 512) (y1 : Fin 1024) (r : Fin 32768)
    (hr : (((cfg0.win 12).blk t).view.emb (ix2 y0 y1)) 0 = r) (k : Fin 1024) :
    iblk m c 4 t (ix2 y0 k)
      = m ((c.tc : Thread nD τ).loc main_arg4)
          (ix3 ⟨r.val / 2048, by omega⟩ ⟨r.val % 2048, by omega⟩ k) := by
  subst hr
  have e : ((cfg0.win 4).blk t).view.emb (ix2 y0 k)
      = ix2 ((((cfg0.win 12).blk t).view.emb (ix2 y0 y1)) 0) k := by
    blk_ext [idx t]
  have h : ∀ (r : Fin 32768), V m c main_v4 (ix2 r k)
      = m ((c.tc : Thread nD τ).loc main_arg4) (ix3 ⟨r.val / 2048, by omega⟩ ⟨r.val % 2048, by omega⟩ k) := by
    intro r
    entry_read
    pointwise
  exact (congrArg (V m c main_v4) e).trans (h _)

/-- A block the kernel writes back is the plain formula at the rows it lies over. -/
theorem point (c : Dev nD) (t : Fin cfg0.N) (y : S512x1024.Idx) :
    out0_12 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) y
      = OutprojRefIdeal.RowValue.HALF (OutprojRefIdeal.RowValue.MERGE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
          (m ((c.tc : Thread nD τ).loc main_arg8)) (m ((c.tc : Thread nD τ).loc main_arg9)) (m ((c.tc : Thread nD τ).loc main_arg10)) (m ((c.tc : Thread nD τ).loc main_arg11))
          (((cfg0.win 12).blk t).view.emb y) := by
  idx_vars y
  rw [out_at, eq_ix2 (((cfg0.win 12).blk t).view.emb (ix2 y0 y1))]
  refine Eq.trans ?_ (OutprojRefIdeal.RowValue.HALF_at _ _ _ _ _ _ _).symm
  refine HalfStep.row_congr (fun k => ?_) (fun k => ?_) (fun k p => ?_) (fun k p => ?_) (fun p l => ?_) ?_
  · refine Eq.trans ?_ (OutprojRefIdeal.RowValue.MERGE_at _ _ _ _ _ _ _ _ _ _ _).symm
    refine HalfStep.mrg_congr (fun k => read0 m c t y0 y1 _ rfl k) (fun k => read3 m c t y0 y1 _ rfl k)
      (fun k => read4 m c t y0 y1 _ rfl k) (fun k => read1 m c t y0 y1 _ rfl k) (fun k => read2 m c t y0 y1 _ rfl k)
      (fun e d => ?_) (fun e d => ?_) (fun d k => ?_) k
    · blk_point [iblk, V, idx t]
    · blk_point [iblk, V, idx t]
    · blk_point [iblk, V, idx t]
  · blk_point [iblk, V, idx t]
  · blk_point [iblk, V, idx t]
  · blk_point [iblk, V, idx t]
  · blk_point [iblk, V, idx t]
  · refine Fin.ext ?_
    blk_simp [idx t]

/-- The whole result array after the run is the plain formula of the arguments. -/
theorem final (c : Dev nD) : (dats m 0 c).arrAt 12 (cfgs 0).N
    = OutprojRefIdeal.RowValue.HALF (OutprojRefIdeal.RowValue.MERGE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
        (m ((c.tc : Thread nD τ).loc main_arg8)) (m ((c.tc : Thread nD τ).loc main_arg9)) (m ((c.tc : Thread nD τ).loc main_arg10)) (m ((c.tc : Thread nD τ).loc main_arg11)) := by
  refine (dats m 0 c).arrAt_eq_of_covers 12 _ (by decide +kernel) fun t _ y => ?_
  blk_simp
  rw [after0_12]
  exact point m c t y

end Cert.OutprojIdeal.RowValue

end
-- ==== Proof.CompressRef.lean ====
/- The compressed keys and values of the plain formula, entry by entry. -/
module

public import proofs.«01_k».proof.Proof.Gen.CompressIdeal.Frame
public import proofs.«01_k».proof.Proof.Gen.CompressRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Blocks

/-- One entry through the tanh form of the gelu. -/
def gelu (x : EReal) : EReal :=
  x * (Ideal.ofBits .f32 0x3F000000#32 * (1
    + Ideal.tanh (Ideal.ofBits .f32 0x3F4C422A#32 * (x + Ideal.ofBits .f32 0x3D372713#32 * (x * x * x)))))

/-- Entry `p` of block `r`'s hidden row: the block's 32 tokens with their positions, flattened, times a weight column. -/
def hid (t : Fin 2048 → Fin 64 → EReal) (pos : Fin 32 → Fin 64 → EReal) (w : Fin 2048 → Fin 256 → EReal)
    (r : Fin 127) (p : Fin 256) : EReal :=
  ∑ q : Fin 2048, (t ⟨r.val * 16 + q.val / 64, by omega⟩ ⟨q.val % 64, by omega⟩
    + pos ⟨q.val / 64, by omega⟩ ⟨q.val % 64, by omega⟩) * w q p

/-- What token `a` of the block adds to the hidden entry. -/
def part (t : Fin 2048 → Fin 64 → EReal) (pos : Fin 32 → Fin 64 → EReal) (w : Fin 2048 → Fin 256 → EReal)
    (r : Fin 127) (p : Fin 256) (a : Fin 32) : EReal :=
  ∑ k : Fin 64, (t ⟨r.val * 16 + a.val, by omega⟩ k + pos a k) * w ⟨a.val * 64 + k.val, by omega⟩ p

/-- Thirty-two terms, the first and the last sixteen added from the left. -/
theorem halves (f : Fin 32 → EReal) :
    ∑ a, f a = (f 0 + f 1 + f 2 + f 3 + f 4 + f 5 + f 6 + f 7 + f 8 + f 9 + f 10 + f 11 + f 12 + f 13 + f 14 + f 15)
      + (f 16 + f 17 + f 18 + f 19 + f 20 + f 21 + f 22 + f 23 + f 24 + f 25 + f 26 + f 27 + f 28 + f 29 + f 30 + f 31) := by
  simp only [Fin.sum_univ_succ, Fin.sum_univ_zero, add_zero, add_assoc]
  rfl

/-- The hidden entry, token by token. -/
theorem hid_parts (t : Fin 2048 → Fin 64 → EReal) (pos : Fin 32 → Fin 64 → EReal) (w : Fin 2048 → Fin 256 → EReal)
    (r : Fin 127) (p : Fin 256) :
    hid t pos w r p = (part t pos w r p 0 + part t pos w r p 1 + part t pos w r p 2 + part t pos w r p 3 + part t pos w r p 4 + part t pos w r p 5 + part t pos w r p 6 + part t pos w r p 7 + part t pos w r p 8 + part t pos w r p 9 + part t pos w r p 10 + part t pos w r p 11 + part t pos w r p 12 + part t pos w r p 13 + part t pos w r p 14 + part t pos w r p 15)
      + (part t pos w r p 16 + part t pos w r p 17 + part t pos w r p 18 + part t pos w r p 19 + part t pos w r p 20 + part t pos w r p 21 + part t pos w r p 22 + part t pos w r p 23 + part t pos w r p 24 + part t pos w r p 25 + part t pos w r p 26 + part t pos w r p 27 + part t pos w r p 28 + part t pos w r p 29 + part t pos w r p 30 + part t pos w r p 31) := by
  rw [← halves, hid]
  refine (Fin.sum_univ_tiles 32 64 rfl _).trans (Finset.sum_congr rfl fun a _ => Finset.sum_congr rfl fun k _ => ?_)
  have e1 : (a.val * 64 + k.val) / 64 = a.val := by omega
  have e2 : (a.val * 64 + k.val) % 64 = k.val := by omega
  simp only [e1, e2]

/-- Entry `e` of a compressed token from its hidden row. -/
def tok (h : Fin 256 → EReal) (w : Fin 256 → Fin 64 → EReal) (e : Fin 64) : EReal :=
  ∑ p, gelu (h p) * w p e

/-- A compressed key, RMS-normalised and scaled by the gain: entry `e`. -/
def nrm (y g : Fin 64 → EReal) (e : Fin 64) : EReal :=
  y e * Ideal.rsqrt (Ideal.div (∑ l, y l * y l) (Ideal.ofBits .f32 0x42800000#32)
    + Ideal.ofBits .f32 0x358637BD#32) * g e

end Cert.Blocks

namespace Cert.CompressRefIdeal.RowValue

open Cert.CompressRefIdeal Cert.CompressRefIdeal.Gen

theorem zeroI : (FloatOps.sitofp (F := Ideal) .f32 (0#32 : BitVec 32) : EReal) = 0 := by
  simp [FloatOps.sitofp]

/-- The hidden rows of every block, plainly. -/
def HID (T : FVec Ideal S16x2x2048x64 .f32) (pos : FVec Ideal S32x64 .f32) (w1 : FVec Ideal S2048x256 .f32) : FVec Ideal S16x2x127x256 .f32 :=
  Host.dotGeneral dot_S16x2x127x2048_S2048x256_S16x2x127x256_3_0_012_1_n_n none (shapeCast _ (addf (concatenate S16x2x127x32x64 3 [⟨S16x2x127x16x64, (extractStridedSlice S16x2x127x16x64 ![0, 0, 0, 0, 0] (shapeCast _ T shapeCasts_S16x2x2048x64_S16x2x128x16x64) slices_S16x2x128x16x64_S16x2x127x16x64_0_0_0_0_0)⟩, ⟨S16x2x127x16x64, (extractStridedSlice S16x2x127x16x64 ![0, 0, 1, 0, 0] (shapeCast _ T shapeCasts_S16x2x2048x64_S16x2x128x16x64) slices_S16x2x128x16x64_S16x2x127x16x64_0_0_1_0_0)⟩] concatenates_S16x2x127x16x64_S16x2x127x16x64_S16x2x127x32x64_d3) (broadcastInDim S16x2x127x32x64 ![0, 1, 2, 3, 4] bcast_S1x1x1x32x64_S16x2x127x32x64_0_1_2_3_4 (broadcastInDim S1x1x1x32x64 ![3, 4] bcast_S32x64_S1x1x1x32x64_3_4 pos))) shapeCasts_S16x2x127x32x64_S16x2x127x2048) w1

/-- The compressed tokens from the hidden rows, plainly. -/
def TOK (h : FVec Ideal S16x2x127x256 .f32) (w2 : FVec Ideal S256x64 .f32) : FVec Ideal S16x2x127x64 .f32 :=
  Host.dotGeneral dot_S16x2x127x256_S256x64_S16x2x127x64_3_0_012_1_n_n none (mulf h (mulf (broadcastInDim S16x2x127x256 ![] bcast_S_S16x2x127x256 (constant S_ .f32 0x3F000000#32)) (addf (broadcastInDim S16x2x127x256 ![] bcast_S_S16x2x127x256 (constant S_ .f32 0x3F800000#32)) (Host.tanh (mulf (broadcastInDim S16x2x127x256 ![] bcast_S_S16x2x127x256 (constant S_ .f32 0x3F4C422A#32)) (addf h (mulf (broadcastInDim S16x2x127x256 ![] bcast_S_S16x2x127x256 (constant S_ .f32 0x3D372713#32)) (mulf (mulf h h) h)))))))) w2

/-- The keys' result, plainly: normed, one zero row behind. -/
def KEYS (y : FVec Ideal S16x2x127x64 .f32) (g : FVec Ideal S64 .f32) : FVec Ideal S16x2x128x64 .f32 :=
  pad S16x2x128x64 ![0, 0, 0, 0] ![0, 0, 1, 0] ![0, 0, 0, 0] (mulf (mulf y (broadcastInDim S16x2x127x64 ![0, 1, 2, 3] bcast_S16x2x127x1_S16x2x127x64_0_1_2_3 (Host.rsqrt (addf (Host.divf (broadcastInDim S16x2x127x1 ![0, 1, 2] bcast_S16x2x127_S16x2x127x1_0_1_2 (Host.reduceAdd (mulf y y) (constant S_ .f32 0x00000000#32) reducesTo_S16x2x127x64_S16x2x127_d3 h_S_)) (broadcastInDim S16x2x127x1 ![] bcast_S_S16x2x127x1 (constant S_ .f32 0x42800000#32))) (broadcastInDim S16x2x127x1 ![] bcast_S_S16x2x127x1 (constant S_ .f32 0x358637BD#32)))))) (broadcastInDim S16x2x127x64 ![0, 1, 2, 3] bcast_S1x1x1x64_S16x2x127x64_0_1_2_3 (broadcastInDim S1x1x1x64 ![3] bcast_S64_S1x1x1x64_3 g))) (sitofp .f32 (constantI S_ 32 0#32)) pads_S16x2x127x64_S16x2x128x64_000_000_010_000 h_S_

/-- The values' result, plainly: one zero row behind, transposed. -/
def VALS (y : FVec Ideal S16x2x127x64 .f32) : FVec Ideal S16x2x64x128 .f32 :=
  transpose S16x2x64x128 [0, 1, 3, 2] (pad S16x2x128x64 ![0, 0, 0, 0] ![0, 0, 1, 0] ![0, 0, 0, 0] y (sitofp .f32 (constantI S_ 32 0#32)) pads_S16x2x127x64_S16x2x128x64_000_000_010_000 h_S_) transposes_S16x2x128x64_S16x2x64x128_0_1_3_2

/-- Argument 0, part 0. -/
def T0 (X : FVec Ideal S16x4x2x2048x64 .f32) : FVec Ideal S16x2x2048x64 .f32 :=
  shapeCast _ (extractStridedSlice S16x1x2x2048x64 ![0, 0, 0, 0, 0] X slices_S16x4x2x2048x64_S16x1x2x2048x64_0_0_0_0_0) shapeCasts_S16x1x2x2048x64_S16x2x2048x64

/-- Argument 1, part 0. -/
def POS0 (X : FVec Ideal S2x32x64 .f32) : FVec Ideal S32x64 .f32 :=
  shapeCast _ (extractStridedSlice S1x32x64 ![0, 0, 0] X slices_S2x32x64_S1x32x64_0_0_0) shapeCasts_S1x32x64_S32x64

/-- Argument 2, part 0. -/
def W10 (X : FVec Ideal S2x2048x256 .f32) : FVec Ideal S2048x256 .f32 :=
  shapeCast _ (extractStridedSlice S1x2048x256 ![0, 0, 0] X slices_S2x2048x256_S1x2048x256_0_0_0) shapeCasts_S1x2048x256_S2048x256

/-- Argument 3, part 0. -/
def W20 (X : FVec Ideal S2x256x64 .f32) : FVec Ideal S256x64 .f32 :=
  shapeCast _ (extractStridedSlice S1x256x64 ![0, 0, 0] X slices_S2x256x64_S1x256x64_0_0_0) shapeCasts_S1x256x64_S256x64

/-- Argument 0, part 1. -/
def T1 (X : FVec Ideal S16x4x2x2048x64 .f32) : FVec Ideal S16x2x2048x64 .f32 :=
  shapeCast _ (extractStridedSlice S16x1x2x2048x64 ![0, 1, 0, 0, 0] X slices_S16x4x2x2048x64_S16x1x2x2048x64_0_1_0_0_0) shapeCasts_S16x1x2x2048x64_S16x2x2048x64

/-- Argument 1, part 1. -/
def POS1 (X : FVec Ideal S2x32x64 .f32) : FVec Ideal S32x64 .f32 :=
  shapeCast _ (extractStridedSlice S1x32x64 ![1, 0, 0] X slices_S2x32x64_S1x32x64_1_0_0) shapeCasts_S1x32x64_S32x64

/-- Argument 2, part 1. -/
def W11 (X : FVec Ideal S2x2048x256 .f32) : FVec Ideal S2048x256 .f32 :=
  shapeCast _ (extractStridedSlice S1x2048x256 ![1, 0, 0] X slices_S2x2048x256_S1x2048x256_1_0_0) shapeCasts_S1x2048x256_S2048x256

/-- Argument 3, part 1. -/
def W21 (X : FVec Ideal S2x256x64 .f32) : FVec Ideal S256x64 .f32 :=
  shapeCast _ (extractStridedSlice S1x256x64 ![1, 0, 0] X slices_S2x256x64_S1x256x64_1_0_0) shapeCasts_S1x256x64_S256x64

theorem res0_eq (m : (ℓ : Loc nD τ sig) → Buf (Elt Ideal) ℓ) (c : Dev nD) :
    Value.res_main_v75 m c = KEYS (TOK (HID (T0 (m ((c.tc : Thread nD τ).loc main_arg0))) (POS0 (m ((c.tc : Thread nD τ).loc main_arg1))) (W10 (m ((c.tc : Thread nD τ).loc main_arg2)))) (W20 (m ((c.tc : Thread nD τ).loc main_arg3)))) (m ((c.tc : Thread nD τ).loc main_arg4)) := rfl

theorem res1_eq (m : (ℓ : Loc nD τ sig) → Buf (Elt Ideal) ℓ) (c : Dev nD) :
    Value.res_main_v77 m c = VALS (TOK (HID (T1 (m ((c.tc : Thread nD τ).loc main_arg0))) (POS1 (m ((c.tc : Thread nD τ).loc main_arg1))) (W11 (m ((c.tc : Thread nD τ).loc main_arg2)))) (W21 (m ((c.tc : Thread nD τ).loc main_arg3)))) := rfl

/-- The hidden rows, entry by entry. -/
theorem HID_at (T : FVec Ideal S16x2x2048x64 .f32) (pos : FVec Ideal S32x64 .f32) (w1 : FVec Ideal S2048x256 .f32)
    (b : Fin 16) (g : Fin 2) (r : Fin 127) (p : Fin 256) :
    HID T pos w1 (ix4 b g r p)
      = Blocks.hid (fun s k => T (ix4 b g s k)) (fun q k => pos (ix2 q k)) (fun q p => w1 (ix2 q p)) r p := by
  pointwise [HID, Blocks.hid]
  all_goals blk_point []

theorem TOK_at (h : FVec Ideal S16x2x127x256 .f32) (w2 : FVec Ideal S256x64 .f32) (b : Fin 16) (g : Fin 2) (r : Fin 127) (e : Fin 64) :
    TOK h w2 (ix4 b g r e) = Blocks.tok (fun p => h (ix4 b g r p)) (fun p e => w2 (ix2 p e)) e := by
  pointwise [TOK, Blocks.tok, Blocks.gelu]

/-- The keys' result, entry by entry: the last row is zero. -/
theorem KEYS_at (y : FVec Ideal S16x2x127x64 .f32) (g : FVec Ideal S64 .f32) (b : Fin 16) (h : Fin 2) (r : Fin 128) (e : Fin 64) :
    KEYS y g (ix4 b h r e) = if hr : r.val < 127 then
      Blocks.nrm (fun l => y (ix4 b h ⟨r.val, hr⟩ l)) (fun l => g (ix1 l)) e else (0 : EReal) := by
  pointwise [KEYS, Blocks.nrm, zeroI]
  all_goals blk_point []

/-- The values' result, entry by entry: the last column is zero. -/
theorem VALS_at (y : FVec Ideal S16x2x127x64 .f32) (b : Fin 16) (h : Fin 2) (e : Fin 64) (r : Fin 128) :
    VALS y (ix4 b h e r) = if hr : r.val < 127 then y (ix4 b h ⟨r.val, hr⟩ e) else (0 : EReal) := by
  pointwise [VALS, zeroI]
  all_goals blk_point []

theorem T0_at (X : FVec Ideal S16x4x2x2048x64 .f32) (b : Fin 16) (g : Fin 2) (s : Fin 2048) (k : Fin 64) :
    T0 X (ix4 b g s k) = X (ix5 b 0 g s k) := by
  pointwise [T0]
  all_goals blk_point []

theorem POS0_at (X : FVec Ideal S2x32x64 .f32) (q : Fin 32) (k : Fin 64) : POS0 X (ix2 q k) = X (ix3 0 q k) := by
  pointwise [POS0]
  all_goals blk_point []

theorem W10_at (X : FVec Ideal S2x2048x256 .f32) (q : Fin 2048) (p : Fin 256) : W10 X (ix2 q p) = X (ix3 0 q p) := by
  pointwise [W10]
  all_goals blk_point []

theorem W20_at (X : FVec Ideal S2x256x64 .f32) (p : Fin 256) (e : Fin 64) : W20 X (ix2 p e) = X (ix3 0 p e) := by
  pointwise [W20]
  all_goals blk_point []

theorem T1_at (X : FVec Ideal S16x4x2x2048x64 .f32) (b : Fin 16) (g : Fin 2) (s : Fin 2048) (k : Fin 64) :
    T1 X (ix4 b g s k) = X (ix5 b 1 g s k) := by
  pointwise [T1]
  all_goals blk_point []

theorem POS1_at (X : FVec Ideal S2x32x64 .f32) (q : Fin 32) (k : Fin 64) : POS1 X (ix2 q k) = X (ix3 1 q k) := by
  pointwise [POS1]
  all_goals blk_point []

theorem W11_at (X : FVec Ideal S2x2048x256 .f32) (q : Fin 2048) (p : Fin 256) : W11 X (ix2 q p) = X (ix3 1 q p) := by
  pointwise [W11]
  all_goals blk_point []

theorem W21_at (X : FVec Ideal S2x256x64 .f32) (p : Fin 256) (e : Fin 64) : W21 X (ix2 p e) = X (ix3 1 p e) := by
  pointwise [W21]
  all_goals blk_point []

end Cert.CompressRefIdeal.RowValue

end
-- ==== Proof.CompressValue.lean ====
/- The compression kernel: both its result arrays are the plain formula, block by block. -/
module

public import proofs.«01_k».proof.Proof.CompressRef

@[expose] public section

set_option maxRecDepth 16384

noncomputable section

open Idealize.ShloMosaic Idealize.ShloMosaic.TcCoe Idealize.SL.Sem

namespace Cert.CompressIdeal.RowValue

open Cert.CompressIdeal Cert.CompressIdeal.Gen

/-- The kernel's cube is taken from the other side. -/
theorem gelu_eq (x : EReal) : x * (Ideal.ofBits .f32 0x3F000000#32 * (1
    + Ideal.tanh (Ideal.ofBits .f32 0x3F4C422A#32 * (x + Ideal.ofBits .f32 0x3D372713#32 * (x * (x * x)))))) = Blocks.gelu x := by
  rw [Blocks.gelu, mul_assoc x x x]

theorem below : ∀ r : Fin 128, IntOp.cmpi .slt (BitVec.ofNat 32 r.val) 127#32 = if r.val < 127 then 1#1 else 0#1 := by
  decide +kernel

/-- Only the last row is masked. -/
theorem mask (r : Fin 128) (x y : EReal) :
    Scalar.select (IntOp.cmpi .slt (BitVec.ofNat 32 r.val) 127#32) x y = if r.val < 127 then x else y := by
  rw [below]
  split <;> rfl

theorem turn (r : Fin 128) (hr : r.val < 127) (h : (r.val + 128 - 127) % 128 < 128) :
    (⟨(r.val + 128 - 127) % 128, h⟩ : Fin 128) = ⟨r.val + 1, by omega⟩ := by
  apply Fin.ext
  show (r.val + 128 - 127) % 128 = r.val + 1
  omega

/-- The products of one position of the block, over the head's 64 lanes. -/
def seg (x : FVec Ideal S1x1x1x128x64 .f32) (q : FVec Ideal S1x1x64 .f32) (w : FVec Ideal S1x64x256 .bf16) (r : Fin 128) (p : Fin 256) : EReal :=
  ∑ k : Fin 64, (x (ix5 0 0 0 r k) + q (ix3 0 0 k)) * w (ix3 0 k p)

/-- What the last payload of the keys does with the two running sums. -/
theorem pay44_at (v292 v301 : FVec Ideal S128x256 .f32) (x : FVec Ideal S1x1x1x128x64 .f32) (q q' : FVec Ideal S1x1x64 .f32)
    (w w' : FVec Ideal S1x64x256 .bf16) (u : FVec Ideal S256x64 .bf16) (r : Fin 128) (hr : r.val < 127) (e : Fin 64) :
    k0_pay44 (F := Ideal) v292 v301 (k0_pay43 x) q w q' w' u (ix2 r e)
      = Blocks.tok (fun p => v292 (ix2 r p) + seg x q w r p + (v301 (ix2 ⟨r.val + 1, by omega⟩ p) + seg x q' w' ⟨r.val + 1, by omega⟩ p))
          (fun p e => u (ix2 p e)) e := by
  pointwise [k0_pay44, k0_pay43, Blocks.tok, seg, turn r hr, gelu_eq]

theorem pay45_at (y : FVec Ideal S128x64 .f32) (g : FVec Ideal S1x64 .f32) (r : Fin 128) (e : Fin 64) :
    k0_pay45 (F := Ideal) y g (ix4 0 0 r e)
      = if r.val < 127 then Blocks.nrm (fun l => y (ix2 r l)) (fun l => g (ix2 0 l)) e else (0 : EReal) := by
  pointwise [k0_pay45, Blocks.nrm, mask]

theorem pay92_at (a s : FVec Ideal S128x256 .f32) (u : FVec Ideal S64x256 .bf16) (r : Fin 128) (hr : r.val < 127) (e : Fin 64) :
    k0_pay92 (F := Ideal) a s 127#32 u (ix2 e r)
      = Blocks.tok (fun p => a (ix2 r p) + s (ix2 ⟨r.val + 1, by omega⟩ p)) (fun p e => u (ix2 e p)) e := by
  pointwise [k0_pay92, Blocks.tok, turn r hr, gelu_eq, mask, if_pos hr]
  refine Finset.sum_congr rfl fun k _ => mul_comm _ _

theorem pay92_last (a s : FVec Ideal S128x256 .f32) (u : FVec Ideal S64x256 .bf16) (r : Fin 128) (hr : ¬r.val < 127) (e : Fin 64) :
    k0_pay92 (F := Ideal) a s 127#32 u (ix2 e r) = (0 : EReal) := by
  pointwise [k0_pay92, mask, if_neg hr]

theorem open1 (v : FVec Ideal S64x128 .f32) (r : Fin 128) (e : Fin 64) : k0_pay1 (F := Ideal) v (ix4 0 0 e r) = v (ix2 e r) := by
  pointwise [k0_pay1]

variable (m : (ℓ : Loc nD τ sig) → Buf (Elt Ideal) ℓ)

theorem strided (M : Memref sig .tc .vmem S1x1x1x2048x64 .f32) (hM : M.IsWhole) (x : FVec Ideal S1x1x1x2048x64 .f32) (o : ℕ)
    (h : ∀ a : Fin S1x1x1x2048x64.rank, (![1, 1, 1, 128, 64] : Fin 5 → ℕ) a = 0
      ∨ (![0, 0, 0, o, 0] : Fin 5 → ℕ) a + (![1, 1, 1, 16, 1] : Fin 5 → ℕ) a * ((![1, 1, 1, 128, 64] : Fin 5 → ℕ) a - 1) < S1x1x1x2048x64.size a)
    (r : Fin 128) (k : Fin 64) (ho : o < 16) :
    (View.readAt (Elt Ideal) M.view
      { off := ![0, 0, 0, o, 0], size := ![1, 1, 1, 128, 64], stride := ![1, 1, 1, 16, 1], inb := h } (hM.unread x))
        (ix5 0 0 0 r k) = x (ix5 0 0 0 ⟨o + r.val * 16, by omega⟩ k) := by
  refine (congrFun (hM.read_unread (Val := Elt Ideal) x) _).trans ?_
  blk_ext
  · show o + 16 * r.val = o + r.val * 16
    omega
  · show 0 + 1 * k.val = k.val
    omega

set_option maxHeartbeats 2000000 in
theorem key_at (c : Dev nD) (t : Fin cfg0.N) (r : Fin 128) (e : Fin 64) (X : FVec Ideal S1x1x1x2048x64 .f32) (Q : FVec Ideal S2x32x64 .f32)
    (W : FVec Ideal S2x2048x256 .bf16) (U : FVec Ideal S256x64 .bf16) (G : FVec Ideal S1x64 .f32)
    (hX : iblk m c 0 t = X) (hQ : iblk m c 2 t = Q) (hW : iblk m c 3 t = W) (hU : iblk m c 4 t = U) (hG : iblk m c 6 t = G) :
    (outsAt0 m c t).1 (ix4 0 0 r e) = if hr : r.val < 127 then
      Blocks.nrm (fun l => Blocks.tok (fun p => Blocks.hid (fun s k => X (ix5 0 0 0 s k))
        (fun q k => Q (ix3 0 q k)) (fun q p => W (ix3 0 q p)) ⟨r.val, hr⟩ p) (fun p e => U (ix2 p e)) l)
        (fun l => G (ix2 0 l)) e else (0 : EReal) := by
  unfold outsAt0
  rw [hX, hQ, hW, hU, hG]
  frame_out
  rw [pay45_at]
  by_cases hr : r.val < 127
  · rw [if_pos hr, dif_pos hr]
    refine congrArg (fun y => Blocks.nrm y _ e) (funext fun l => ?_)
    refine (pay44_at _ _ _ _ _ _ _ _ r hr l).trans ?_
    refine congrArg (fun h => Blocks.tok h _ l) (funext fun p => ?_)
    rw [Blocks.hid_parts]
    pointwise [seg, Blocks.part, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
    have q := fun o h (r : Fin 128) k ho => strided (ms0_0 t) (hs0_0 t) X o h r k ho
    simp (config := {proj := false}) only [q, Nat.reduceLT]
    blk_point []
  · rw [if_neg hr, dif_neg hr]
set_option maxHeartbeats 2000000 in
theorem val_at (c : Dev nD) (t : Fin cfg0.N) (r : Fin 128) (e : Fin 64) (X : FVec Ideal S1x1x1x2048x64 .f32) (Q : FVec Ideal S2x32x64 .f32)
    (W : FVec Ideal S2x2048x256 .bf16) (U : FVec Ideal S64x256 .bf16)
    (hX : iblk m c 1 t = X) (hQ : iblk m c 2 t = Q) (hW : iblk m c 3 t = W) (hU : iblk m c 5 t = U) :
    (outsAt0 m c t).2 (ix4 0 0 e r) = if hr : r.val < 127 then
      Blocks.tok (fun p => Blocks.hid (fun s k => X (ix5 0 0 0 s k))
        (fun q k => Q (ix3 1 q k)) (fun q p => W (ix3 1 q p)) ⟨r.val, hr⟩ p) (fun p e => U (ix2 e p)) e else (0 : EReal) := by
  unfold outsAt0
  rw [hX, hQ, hW, hU]
  frame_out
  by_cases hr : r.val < 127
  · rw [dif_pos hr]
    refine (open1 _ r e).trans ((pay92_at _ _ _ r hr e).trans ?_)
    refine congrArg (fun h => Blocks.tok h _ e) (funext fun p => ?_)
    rw [Blocks.hid_parts]
    pointwise [seg, Blocks.part, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
    have q := fun o h (r : Fin 128) k ho => strided (ms0_1 t) (hs0_1 t) X o h r k ho
    simp (config := {proj := false}) only [q, Nat.reduceLT]
    blk_point []
  · rw [dif_neg hr]
    exact (open1 _ r e).trans (pay92_last _ _ _ r hr e)

/-- Where each window's block lies at grid point `t`. -/
theorem idx : ∀ t : Fin cfg0.N, win0_0.index t = ![t.val / 2, 0, t.val % 2, 0, 0]
    ∧ win0_1.index t = ![t.val / 2, 1, t.val % 2, 0, 0]
    ∧ win0_2.index t = ![0, 0, 0] ∧ win0_3.index t = ![0, 0, 0] ∧ win0_4.index t = ![0, 0]
    ∧ win0_5.index t = ![0, 0] ∧ win0_6.index t = ![0, 0]
    ∧ win0_7.index t = ![t.val / 2, t.val % 2, 0, 0] ∧ win0_8.index t = ![t.val / 2, t.val % 2, 0, 0] :=
  (by decide +kernel : ∀ t : Fin grid0.N, _)

theorem readK (c : Dev nD) (t : Fin cfg0.N) (b : Fin 16) (g : Fin 2) (hb : b.val = t.val / 2) (hg : g.val = t.val % 2)
    (s : Fin 2048) (k : Fin 64) : iblk m c 0 t (ix5 0 0 0 s k) = m ((c.tc : Thread nD τ).loc main_arg0) (ix5 b 0 g s k) := by
  have e : iblk m c 0 t (ix5 0 0 0 s k) = V m c main_arg0 (ix5 b 0 g s k) := by
    unfold iblk
    blk_ext [idx t]
  rw [e, V_main_arg0]

theorem readV (c : Dev nD) (t : Fin cfg0.N) (b : Fin 16) (g : Fin 2) (hb : b.val = t.val / 2) (hg : g.val = t.val % 2)
    (s : Fin 2048) (k : Fin 64) : iblk m c 1 t (ix5 0 0 0 s k) = m ((c.tc : Thread nD τ).loc main_arg0) (ix5 b 1 g s k) := by
  have e : iblk m c 1 t (ix5 0 0 0 s k) = V m c main_arg0 (ix5 b 1 g s k) := by
    unfold iblk
    blk_ext [idx t]
  rw [e, V_main_arg0]

theorem readQ (c : Dev nD) (t : Fin cfg0.N) (a : Fin 2) (q : Fin 32) (k : Fin 64) :
    iblk m c 2 t (ix3 a q k) = m ((c.tc : Thread nD τ).loc main_arg1) (ix3 a q k) := by
  have e : iblk m c 2 t (ix3 a q k) = V m c main_arg1 (ix3 a q k) := by
    unfold iblk
    blk_ext [idx t]
  rw [e, V_main_arg1]

theorem readW (c : Dev nD) (t : Fin cfg0.N) (a : Fin 2) (q : Fin 2048) (p : Fin 256) :
    iblk m c 3 t (ix3 a q p) = m ((c.tc : Thread nD τ).loc main_arg2) (ix3 a q p) := by
  have e : iblk m c 3 t (ix3 a q p) = V m c main_v0 (ix3 a q p) := by
    unfold iblk
    blk_ext [idx t]
  rw [e]
  simp only [V, hostOps0, StableHlo.TRef.binary, StableHlo.TRef.unary, StableHlo.TRef.toBuf,
    StableHlo.TRef.ofBuf, cast_eq]
  after_results_simp
  pointwise
  all_goals blk_point []

theorem readU (c : Dev nD) (t : Fin cfg0.N) (p : Fin 256) (e : Fin 64) :
    iblk m c 4 t (ix2 p e) = m ((c.tc : Thread nD τ).loc main_arg3) (ix3 0 p e) := by
  have e : iblk m c 4 t (ix2 p e) = V m c main_v3 (ix2 p e) := by
    unfold iblk
    blk_ext [idx t]
  rw [e]
  simp only [V, hostOps0, StableHlo.TRef.binary, StableHlo.TRef.unary, StableHlo.TRef.toBuf,
    StableHlo.TRef.ofBuf, cast_eq]
  after_results_simp
  pointwise
  all_goals blk_point []

theorem readUt (c : Dev nD) (t : Fin cfg0.N) (p : Fin 256) (e : Fin 64) :
    iblk m c 5 t (ix2 e p) = m ((c.tc : Thread nD τ).loc main_arg3) (ix3 1 p e) := by
  have e : iblk m c 5 t (ix2 e p) = V m c main_v7 (ix2 e p) := by
    unfold iblk
    blk_ext [idx t]
  rw [e]
  simp only [V, hostOps0, StableHlo.TRef.binary, StableHlo.TRef.unary, StableHlo.TRef.toBuf,
    StableHlo.TRef.ofBuf, cast_eq]
  after_results_simp
  pointwise
  all_goals blk_point []

theorem readG (c : Dev nD) (t : Fin cfg0.N) (k : Fin 64) :
    iblk m c 6 t (ix2 0 k) = m ((c.tc : Thread nD τ).loc main_arg4) (ix1 k) := by
  have e : iblk m c 6 t (ix2 0 k) = V m c main_v8 (ix2 0 k) := by
    unfold iblk
    blk_ext [idx t]
  rw [e]
  simp only [V, hostOps0, StableHlo.TRef.binary, StableHlo.TRef.unary, StableHlo.TRef.toBuf,
    StableHlo.TRef.ofBuf, cast_eq]
  after_results_simp
  pointwise
  all_goals blk_point []

/-- A block of keys, entry by entry. -/
theorem core7 (c : Dev nD) (t : Fin cfg0.N) (r : Fin 128) (e : Fin 64) (b : Fin 16) (g : Fin 2) (r' : Fin 128) (e' : Fin 64)
    (hb : b.val = t.val / 2) (hg : g.val = t.val % 2) (hr : r'.val = r.val) (he : e'.val = e.val) :
    (outsAt0 m c t).1 (ix4 0 0 r e) = CompressRefIdeal.RowValue.KEYS (CompressRefIdeal.RowValue.TOK (CompressRefIdeal.RowValue.HID (CompressRefIdeal.RowValue.T0 (m ((c.tc : Thread nD τ).loc main_arg0))) (CompressRefIdeal.RowValue.POS0 (m ((c.tc : Thread nD τ).loc main_arg1))) (CompressRefIdeal.RowValue.W10 (m ((c.tc : Thread nD τ).loc main_arg2)))) (CompressRefIdeal.RowValue.W20 (m ((c.tc : Thread nD τ).loc main_arg3)))) (m ((c.tc : Thread nD τ).loc main_arg4)) (ix4 b g r' e') := by
  obtain rfl : r' = r := Fin.ext hr
  obtain rfl : e' = e := Fin.ext he
  rw [key_at m c t r' e' _ _ _ _ _ rfl rfl rfl rfl rfl, CompressRefIdeal.RowValue.KEYS_at]
  refine dite_congr rfl (fun h => ?_) fun _ => rfl
  simp only [CompressRefIdeal.RowValue.TOK_at, CompressRefIdeal.RowValue.HID_at, CompressRefIdeal.RowValue.T0_at, CompressRefIdeal.RowValue.POS0_at, CompressRefIdeal.RowValue.W10_at, CompressRefIdeal.RowValue.W20_at, readK m c t b g hb hg, readQ, readW, readU, readG]

/-- A block of values, entry by entry. -/
theorem core8 (c : Dev nD) (t : Fin cfg0.N) (e : Fin 64) (r : Fin 128) (b : Fin 16) (g : Fin 2) (e' : Fin 64) (r' : Fin 128)
    (hb : b.val = t.val / 2) (hg : g.val = t.val % 2) (he : e'.val = e.val) (hr : r'.val = r.val) :
    (outsAt0 m c t).2 (ix4 0 0 e r) = CompressRefIdeal.RowValue.VALS (CompressRefIdeal.RowValue.TOK (CompressRefIdeal.RowValue.HID (CompressRefIdeal.RowValue.T1 (m ((c.tc : Thread nD τ).loc main_arg0))) (CompressRefIdeal.RowValue.POS1 (m ((c.tc : Thread nD τ).loc main_arg1))) (CompressRefIdeal.RowValue.W11 (m ((c.tc : Thread nD τ).loc main_arg2)))) (CompressRefIdeal.RowValue.W21 (m ((c.tc : Thread nD τ).loc main_arg3)))) (ix4 b g e' r') := by
  obtain rfl : r' = r := Fin.ext hr
  obtain rfl : e' = e := Fin.ext he
  rw [val_at m c t r' e' _ _ _ _ rfl rfl rfl rfl, CompressRefIdeal.RowValue.VALS_at]
  refine dite_congr rfl (fun h => ?_) fun _ => rfl
  simp only [CompressRefIdeal.RowValue.TOK_at, CompressRefIdeal.RowValue.HID_at, CompressRefIdeal.RowValue.T1_at, CompressRefIdeal.RowValue.POS1_at, CompressRefIdeal.RowValue.W11_at, CompressRefIdeal.RowValue.W21_at, readV m c t b g hb hg, readQ, readW, readUt]

theorem point7 (c : Dev nD) (t : Fin cfg0.N) (y : S1x1x128x64.Idx) :
    (outsAt0 m c t).1 y = CompressRefIdeal.RowValue.KEYS (CompressRefIdeal.RowValue.TOK (CompressRefIdeal.RowValue.HID (CompressRefIdeal.RowValue.T0 (m ((c.tc : Thread nD τ).loc main_arg0))) (CompressRefIdeal.RowValue.POS0 (m ((c.tc : Thread nD τ).loc main_arg1))) (CompressRefIdeal.RowValue.W10 (m ((c.tc : Thread nD τ).loc main_arg2)))) (CompressRefIdeal.RowValue.W20 (m ((c.tc : Thread nD τ).loc main_arg3)))) (m ((c.tc : Thread nD τ).loc main_arg4)) (((cfg0.win 7).blk t).view.emb y) := by
  idx_vars y
  obtain rfl : y0 = 0 := Subsingleton.elim _ _
  obtain rfl : y1 = 0 := Subsingleton.elim _ _
  rw [eq_ix4 (((cfg0.win 7).blk t).view.emb (ix4 0 0 y2 y3))]
  refine core7 m c t _ _ _ _ _ _ ?_ ?_ ?_ ?_
  all_goals (blk_simp [idx t] <;> (try dsimp only) <;> try omega)

/-- The keys' array is the plain formula. -/
theorem final7 (c : Dev nD) : (dats m 0 c).arrAt 7 (cfgs 0).N
    = CompressRefIdeal.RowValue.KEYS (CompressRefIdeal.RowValue.TOK (CompressRefIdeal.RowValue.HID (CompressRefIdeal.RowValue.T0 (m ((c.tc : Thread nD τ).loc main_arg0))) (CompressRefIdeal.RowValue.POS0 (m ((c.tc : Thread nD τ).loc main_arg1))) (CompressRefIdeal.RowValue.W10 (m ((c.tc : Thread nD τ).loc main_arg2)))) (CompressRefIdeal.RowValue.W20 (m ((c.tc : Thread nD τ).loc main_arg3)))) (m ((c.tc : Thread nD τ).loc main_arg4)) := by
  refine (dats m 0 c).arrAt_eq_of_covers 7 _ (by decide +kernel) fun t _ y => ?_
  blk_simp
  rw [after0_7]
  exact point7 m c t y

theorem point8 (c : Dev nD) (t : Fin cfg0.N) (y : S1x1x64x128.Idx) :
    (outsAt0 m c t).2 y = CompressRefIdeal.RowValue.VALS (CompressRefIdeal.RowValue.TOK (CompressRefIdeal.RowValue.HID (CompressRefIdeal.RowValue.T1 (m ((c.tc : Thread nD τ).loc main_arg0))) (CompressRefIdeal.RowValue.POS1 (m ((c.tc : Thread nD τ).loc main_arg1))) (CompressRefIdeal.RowValue.W11 (m ((c.tc : Thread nD τ).loc main_arg2)))) (CompressRefIdeal.RowValue.W21 (m ((c.tc : Thread nD τ).loc main_arg3)))) (((cfg0.win 8).blk t).view.emb y) := by
  idx_vars y
  obtain rfl : y0 = 0 := Subsingleton.elim _ _
  obtain rfl : y1 = 0 := Subsingleton.elim _ _
  rw [eq_ix4 (((cfg0.win 8).blk t).view.emb (ix4 0 0 y2 y3))]
  refine core8 m c t _ _ _ _ _ _ ?_ ?_ ?_ ?_
  all_goals (blk_simp [idx t] <;> (try dsimp only) <;> try omega)

/-- The values' array is the plain formula. -/
theorem final8 (c : Dev nD) : (dats m 0 c).arrAt 8 (cfgs 0).N
    = CompressRefIdeal.RowValue.VALS (CompressRefIdeal.RowValue.TOK (CompressRefIdeal.RowValue.HID (CompressRefIdeal.RowValue.T1 (m ((c.tc : Thread nD τ).loc main_arg0))) (CompressRefIdeal.RowValue.POS1 (m ((c.tc : Thread nD τ).loc main_arg1))) (CompressRefIdeal.RowValue.W11 (m ((c.tc : Thread nD τ).loc main_arg2)))) (CompressRefIdeal.RowValue.W21 (m ((c.tc : Thread nD τ).loc main_arg3)))) := by
  refine (dats m 0 c).arrAt_eq_of_covers 8 _ (by decide +kernel) fun t _ y => ?_
  blk_simp
  rw [after0_8]
  exact point8 m c t y

end Cert.CompressIdeal.RowValue

end
-- ==== Proof.MobaIdealLast.lean ====
/- The last query block of `Moba`: the body run through, its parts put in their plain form one after the other by
   rewriting (all at once by `simp` the goal is too large). -/
module

public import proofs.«01_k».proof.Proof.Gen.MobaIdeal.Frame.RunG

@[expose] public section

set_option maxRecDepth 16384

noncomputable section

namespace Cert.MobaIdeal.Own

open Cert.MobaIdeal Cert.MobaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in set_option sl_exec.squeezeSlice true in
/-- The last query block, run on any buffers with these contents: the pieces it writes into the output, and that it ends
    with the inputs and the kept scratch as they were. -/
noncomputable def kernelRun0_H (c : Dev nD) (i : grid0.Coords) (arg3 : Memref sig .tc .smem S8x4 .f32) (harg3 : arg3.IsWhole) (arg4 : Memref sig .tc .vmem S1x4x64x256 .f32) (harg4 : arg4.IsWhole) (arg5 : Memref sig .tc .vmem S1x4x2048x64 .f32) (harg5 : arg5.IsWhole) (arg6 : Memref sig .tc .vmem S1x4x16x64x128 .f32) (harg6 : arg6.IsWhole) (arg7 : Memref sig .tc .vmem S2x64 .f32) (harg7 : arg7.IsWhole) (arg8 : Memref sig .tc .vmem S64x2 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S1x256x256 .bf16) (harg11 : arg11.IsWhole) (arg12 : Memref sig .tc .vmem S4x2048x128 .bf16) (harg12 : arg12.IsWhole) (arg13 : Memref sig .tc .vmem S4x2048x128 .bf16) (harg13 : arg13.IsWhole) (arg14 : Memref sig .tc .vmem S4x16x64x128 .bf16) (harg14 : arg14.IsWhole) (arg15 : Memref sig .tc .vmem S4x8x64 .f32) (harg15 : arg15.IsWhole) (arg16 : Memref sig .tc .vmem S256x256 .f32) (harg16 : arg16.IsWhole) (arg17 : Memref sig .tc .vmem S4x2048x256 .f32) (harg17 : arg17.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : cond0_8 i)
    (x0 : Vec F S8x4 .f32) (x1 : Vec F S1x4x64x256 .f32) (x2 : Vec F S1x4x2048x64 .f32) (x3 : Vec F S1x4x16x64x128 .f32) (x4 : Vec F S2x64 .f32) (x5 : Vec F S64x2 .f32) (x6 : Vec F S2048x64 .f32) (x7 : Vec F S2048x64 .f32) (xs0 : Vec F S4x2048x128 .bf16) (xs1 : Vec F S4x2048x128 .bf16) (xs2 : Vec F S4x16x64x128 .bf16) (xs3 : Vec F S4x8x64 .f32) (xs4 : Vec F S256x256 .f32) :
    Σ' (L8 : List (View.Piece (Elt F) S1x256x256 .bf16)), Σ' (LS0 : List (View.Piece (Elt F) S4x2048x128 .bf16)), Σ' (LS1 : List (View.Piece (Elt F) S4x2048x128 .bf16)), Σ' (LS2 : List (View.Piece (Elt F) S4x16x64x128 .bf16)), Σ' (LS3 : List (View.Piece (Elt F) S4x8x64 .f32)), { LS4 : List (View.Piece (Elt F) S256x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4 ∗ (∃ d, owns (c : Thread nD τ) arg17 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4 ∗ (∃ d, owns (c : Thread nD τ) arg17 fullShare d)) -∗ K ⟨⟩))
          ⊢ wp frame (wpE (defs₀ (F := F)) Variants.none c none) E (cc0_moba i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, [], [], [], [], [], fun E K => ?run⟩
  case run =>
    simp only [cc0_moba_eq_skeleton]; unfold cc0_moba_skel
    rw [k0_part305_eq_skeleton]
    unfold k0_part305_skel
    rw [k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, ⟨%fs3, %hfs3, HS3⟩, ⟨%fs4, %hfs4, HS4⟩, ⟨%ds5, %fs5, -, HS5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hfs0; obtain rfl := harg13.eq_unread hfs1; obtain rfl := harg14.eq_unread hfs2; obtain rfl := harg15.eq_unread hfs3; obtain rfl := harg16.eq_unread hfs4
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    isplitl [HS3]
    · iexists _; isplitr; · ipureintro; exact harg15.read_unread _
      iexact HS3
    isplitl [HS4]
    · iexists _; isplitr; · ipureintro; exact harg16.read_unread _
      iexact HS4
    iexists _, _; isplitr; swap; · iexact HS5
    ipureintro; rfl

end Cert.MobaIdeal.Own

end
-- ==== Proof.MobaIdealFrame.lean ====
/- The frame of `Moba`, without naming what each query block computes: at every point the body, run on the blocks of
   its arrays and on some contents of the kept scratch, leaves some output block and some contents of the kept scratch
   (`Step`). The first query block fills the scratch with contents that do not depend on what was there; the others leave
   it as it is. -/
module

public import proofs.«01_k».proof.Proof.MobaIdealLast
public import Idealize.ShloMosaic.Lib.Claim

@[expose] public section

set_option maxRecDepth 16384

noncomputable section

namespace Cert.MobaIdeal.Own

open Cert.MobaIdeal Cert.MobaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the scratch kept from one query block to the next. -/
abbrev Kept (F : FTy → Type) : Type :=
  Vec F S4x2048x128 .bf16 × Vec F S4x2048x128 .bf16 × Vec F S4x16x64x128 .bf16 × Vec F S4x8x64 .f32 × Vec F S256x256 .f32

/-- The input buffers at a point, each at its block. -/
def ins (c : Dev nD) (t : Fin cfg0.N) : sProp 𝕄 :=
  iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t))

/-- The scratch, the kept part at `y` and the scores at anything. -/
def scr (c : Dev nD) (y : Kept F) : sProp 𝕄 :=
  iprop(owns (c : Thread nD τ) scM0_0 fullShare y.1 ∗ owns (c : Thread nD τ) scM0_1 fullShare y.2.1 ∗ owns (c : Thread nD τ) scM0_2 fullShare y.2.2.1 ∗ owns (c : Thread nD τ) scM0_3 fullShare y.2.2.2.1 ∗ owns (c : Thread nD τ) scM0_4 fullShare y.2.2.2.2 ∗ (∃ d, owns (c : Thread nD τ) scM0_5 fullShare d))

/-- The body at point `t`, from kept scratch `y`, leaves the output block `o` and the kept scratch `y'`. -/
def Step (c : Dev nD) (t : Fin cfg0.N) (y : Kept F) (o : Vec F S1x256x256 .bf16) (y' : Kept F) : Prop :=
  ∀ K : PUnit → sProp 𝕄,
    iprop(ins m c t ∗ (∃ d, owns (c : Thread nD τ) (ms0_8 t) fullShare d) ∗ scr c y
      ∗ (iprop(ins m c t ∗ owns (c : Thread nD τ) (ms0_8 t) fullShare o ∗ scr c y') -∗ K ⟨⟩))
    ⊢ wp frame (wpE (defs₀ (F := F)) Variants.none c none) Set.univ (bodyAt0 t) K

/-- Buffers written by pieces that cover them hold what the pieces say, whatever was there. -/
theorem owns_pieces (c : Dev nD) {sp : Space} {s : Shape} {e : EltTy} (M : Memref sig .tc sp s e)
    (L : List (View.Piece (Elt F) s e)) (hc : ∀ y : s.Idx, ∃ pc ∈ L, y ∈ pc.1.set) {sp' : Space} (W : View sig .tc sp' s e) :
    (iprop(∃ f, M.view.loc (c : Thread nD τ) ↦[M.view.set]{fullShare} M.view.writes (Elt F) f L) : sProp 𝕄)
      ⊢ owns (c : Thread nD τ) M fullShare (W.read (Elt F) (W.writes (Elt F) W.junk L)) := by
  iintro ⟨%f, H⟩
  unfold owns; iexists _; isplitr
  swap; · iexact H
  ipureintro; exact View.read_writes_of_cover _ _ _ _ _ hc

/-- A run that leaves the kept scratch as it is, its output written by covering pieces, is a step. -/
theorem step_of_pieces (c : Dev nD) (t : Fin cfg0.N) (y : Kept F) (L : List (View.Piece (Elt F) S1x256x256 .bf16))
    (hc : ∀ y : S1x256x256.Idx, ∃ pc ∈ L, y ∈ pc.1.set)
    (h : ∀ (E : Set ℕ) (K : PUnit → sProp 𝕄),
      iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ (∃ d, owns (c : Thread nD τ) (ms0_8 t) fullShare d) ∗ owns (c : Thread nD τ) scM0_0 fullShare y.1 ∗ owns (c : Thread nD τ) scM0_1 fullShare y.2.1 ∗ owns (c : Thread nD τ) scM0_2 fullShare y.2.2.1 ∗ owns (c : Thread nD τ) scM0_3 fullShare y.2.2.2.1 ∗ owns (c : Thread nD τ) scM0_4 fullShare y.2.2.2.2 ∗ (∃ d, owns (c : Thread nD τ) scM0_5 fullShare d)
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ (∃ f, (ms0_8 t).view.loc (c : Thread nD τ) ↦[(ms0_8 t).view.set]{fullShare} (ms0_8 t).view.writes (Elt F) f L) ∗ owns (c : Thread nD τ) scM0_0 fullShare y.1 ∗ owns (c : Thread nD τ) scM0_1 fullShare y.2.1 ∗ owns (c : Thread nD τ) scM0_2 fullShare y.2.2.1 ∗ owns (c : Thread nD τ) scM0_3 fullShare y.2.2.2.1 ∗ owns (c : Thread nD τ) scM0_4 fullShare y.2.2.2.2 ∗ (∃ d, owns (c : Thread nD τ) scM0_5 fullShare d)) -∗ K ⟨⟩))
      ⊢ wp frame (wpE (defs₀ (F := F)) Variants.none c none) E (bodyAt0 t) K) :
    ∃ o, Step m c t y o y := by
  refine ⟨VO0_8.read (Elt F) (VO0_8.writes (Elt F) VO0_8.junk L), fun K => ?_⟩
  unfold ins scr
  iintro ⟨⟨H0, H1, H2, H3, H4, H5, H6, H7⟩, H8, ⟨HS0, HS1, HS2, HS3, HS4, HS5⟩, Hk⟩
  iapply (h Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, HS0, HS1, HS2, HS3, HS4, HS5⟩
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iapply (owns_pieces c (ms0_8 t) L hc VO0_8); iexact H8
  isplitl [HS0]; · iexact HS0
  isplitl [HS1]; · iexact HS1
  isplitl [HS2]; · iexact HS2
  isplitl [HS3]; · iexact HS3
  isplitl [HS4]; · iexact HS4
  iexact HS5

/-- The first query block of a group of heads: neither its output nor the scratch it leaves depends on the scratch before. -/
theorem step_first (c : Dev nD) (t : Fin cfg0.N) (h : t.val % 8 = 0) : ∃ (o : Vec F S1x256x256 .bf16) (y' : Kept F), ∀ y, Step m c t y o y' := by
  let R := kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr (by omega)) ((hcond0_1 t).mpr (by omega)) (fun h => absurd ((hcond0_2 t).mp h) (by omega)) (fun h => absurd ((hcond0_3 t).mp h) (by omega)) (fun h => absurd ((hcond0_4 t).mp h) (by omega)) (fun h => absurd ((hcond0_5 t).mp h) (by omega)) (fun h => absurd ((hcond0_6 t).mp h) (by omega)) (fun h => absurd ((hcond0_7 t).mp h) (by omega)) (fun h => absurd ((hcond0_8 t).mp h) (by omega)) (iblk m c 0 t) (iblk m c 1 t) (iblk m c 2 t) (iblk m c 3 t) (iblk m c 4 t) (iblk m c 5 t) (iblk m c 6 t) (iblk m c 7 t)
  have hc : ∀ y, ∃ pc ∈ R.1, y ∈ pc.1.set := fun y => View.cover_of_tiledL R.1 S1x256x256.size (by sl_kernel_rfl) y
  have hs0 : ∀ y, ∃ pc ∈ R.2.1, y ∈ pc.1.set := fun y => View.cover_of_tiledL R.2.1 S1x2048x128.size (by sl_kernel_rfl) y
  have hs1 : ∀ y, ∃ pc ∈ R.2.2.1, y ∈ pc.1.set := fun y => View.cover_of_tiledL R.2.2.1 S1x2048x128.size (by sl_kernel_rfl) y
  have hs2 : ∀ y, ∃ pc ∈ R.2.2.2.1, y ∈ pc.1.set := fun y => View.cover_of_tiledL R.2.2.2.1 S1x16x64x128.size (by sl_kernel_rfl) y
  have hs3 : ∀ y, ∃ pc ∈ R.2.2.2.2.1, y ∈ pc.1.set := fun y => View.cover_of_tiledL R.2.2.2.2.1 S1x1x64.size (by sl_kernel_rfl) y
  have hs4 : ∀ y, ∃ pc ∈ R.2.2.2.2.2.1, y ∈ pc.1.set := fun y => View.cover_of_tiledL R.2.2.2.2.2.1 S256x256.size (by sl_kernel_rfl) y
  refine ⟨VO0_8.read (Elt F) (VO0_8.writes (Elt F) VO0_8.junk R.1), ⟨VS0_0.read (Elt F) (VS0_0.writes (Elt F) VS0_0.junk R.2.1), VS0_1.read (Elt F) (VS0_1.writes (Elt F) VS0_1.junk R.2.2.1), VS0_2.read (Elt F) (VS0_2.writes (Elt F) VS0_2.junk R.2.2.2.1), VS0_3.read (Elt F) (VS0_3.writes (Elt F) VS0_3.junk R.2.2.2.2.1), VS0_4.read (Elt F) (VS0_4.writes (Elt F) VS0_4.junk R.2.2.2.2.2.1)⟩, fun y K => ?_⟩
  have hr := R.2.2.2.2.2.2 Set.univ K
  unfold ins scr
  iintro ⟨⟨H0, H1, H2, H3, H4, H5, H6, H7⟩, H8, ⟨HS0, HS1, HS2, HS3, HS4, HS5⟩, Hk⟩
  iapply hr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexact HS5
  iintro ⟨H0, H1, H2, H3, H4, H5, H6, H7, H8, HS0, HS1, HS2, HS3, HS4, HS5⟩
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iapply (owns_pieces c (ms0_8 t) R.1 hc VO0_8); iexact H8
  isplitl [HS0]; · iapply (owns_pieces c scM0_0 R.2.1 hs0 VS0_0); iexact HS0
  isplitl [HS1]; · iapply (owns_pieces c scM0_1 R.2.2.1 hs1 VS0_1); iexact HS1
  isplitl [HS2]; · iapply (owns_pieces c scM0_2 R.2.2.2.1 hs2 VS0_2); iexact HS2
  isplitl [HS3]; · iapply (owns_pieces c scM0_3 R.2.2.2.2.1 hs3 VS0_3); iexact HS3
  isplitl [HS4]; · iapply (owns_pieces c scM0_4 R.2.2.2.2.2.1 hs4 VS0_4); iexact HS4
  iexact HS5

/-- Query block 1 of a group of heads. -/
theorem step_1 (c : Dev nD) (t : Fin cfg0.N) (h : t.val % 8 = 1) (y : Kept F) : ∃ o, Step m c t y o y := by
  let R := kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => absurd ((hcond0_0 t).mp h) (by omega)) (fun h => absurd ((hcond0_1 t).mp h) (by omega)) ((hcond0_2 t).mpr (by omega)) (fun h => absurd ((hcond0_3 t).mp h) (by omega)) (fun h => absurd ((hcond0_4 t).mp h) (by omega)) (fun h => absurd ((hcond0_5 t).mp h) (by omega)) (fun h => absurd ((hcond0_6 t).mp h) (by omega)) (fun h => absurd ((hcond0_7 t).mp h) (by omega)) (fun h => absurd ((hcond0_8 t).mp h) (by omega)) (iblk m c 0 t) (iblk m c 1 t) (iblk m c 2 t) (iblk m c 3 t) (iblk m c 4 t) (iblk m c 5 t) (iblk m c 6 t) (iblk m c 7 t) y.1 y.2.1 y.2.2.1 y.2.2.2.1 y.2.2.2.2
  exact step_of_pieces m c t y R.1 (fun y => View.cover_of_tiledL R.1 S1x256x256.size (by sl_kernel_rfl) y) R.2.2.2.2.2.2

/-- Query block 2 of a group of heads. -/
theorem step_2 (c : Dev nD) (t : Fin cfg0.N) (h : t.val % 8 = 2) (y : Kept F) : ∃ o, Step m c t y o y := by
  let R := kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => absurd ((hcond0_0 t).mp h) (by omega)) (fun h => absurd ((hcond0_1 t).mp h) (by omega)) (fun h => absurd ((hcond0_2 t).mp h) (by omega)) ((hcond0_3 t).mpr (by omega)) (fun h => absurd ((hcond0_4 t).mp h) (by omega)) (fun h => absurd ((hcond0_5 t).mp h) (by omega)) (fun h => absurd ((hcond0_6 t).mp h) (by omega)) (fun h => absurd ((hcond0_7 t).mp h) (by omega)) (fun h => absurd ((hcond0_8 t).mp h) (by omega)) (iblk m c 0 t) (iblk m c 1 t) (iblk m c 2 t) (iblk m c 3 t) (iblk m c 4 t) (iblk m c 5 t) (iblk m c 6 t) (iblk m c 7 t) y.1 y.2.1 y.2.2.1 y.2.2.2.1 y.2.2.2.2
  exact step_of_pieces m c t y R.1 (fun y => View.cover_of_tiledL R.1 S1x256x256.size (by sl_kernel_rfl) y) R.2.2.2.2.2.2

/-- Query block 3 of a group of heads. -/
theorem step_3 (c : Dev nD) (t : Fin cfg0.N) (h : t.val % 8 = 3) (y : Kept F) : ∃ o, Step m c t y o y := by
  let R := kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => absurd ((hcond0_0 t).mp h) (by omega)) (fun h => absurd ((hcond0_1 t).mp h) (by omega)) (fun h => absurd ((hcond0_2 t).mp h) (by omega)) (fun h => absurd ((hcond0_3 t).mp h) (by omega)) ((hcond0_4 t).mpr (by omega)) (fun h => absurd ((hcond0_5 t).mp h) (by omega)) (fun h => absurd ((hcond0_6 t).mp h) (by omega)) (fun h => absurd ((hcond0_7 t).mp h) (by omega)) (fun h => absurd ((hcond0_8 t).mp h) (by omega)) (iblk m c 0 t) (iblk m c 1 t) (iblk m c 2 t) (iblk m c 3 t) (iblk m c 4 t) (iblk m c 5 t) (iblk m c 6 t) (iblk m c 7 t) y.1 y.2.1 y.2.2.1 y.2.2.2.1 y.2.2.2.2
  exact step_of_pieces m c t y R.1 (fun y => View.cover_of_tiledL R.1 S1x256x256.size (by sl_kernel_rfl) y) R.2.2.2.2.2.2

/-- Query block 4 of a group of heads. -/
theorem step_4 (c : Dev nD) (t : Fin cfg0.N) (h : t.val % 8 = 4) (y : Kept F) : ∃ o, Step m c t y o y := by
  let R := kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => absurd ((hcond0_0 t).mp h) (by omega)) (fun h => absurd ((hcond0_1 t).mp h) (by omega)) (fun h => absurd ((hcond0_2 t).mp h) (by omega)) (fun h => absurd ((hcond0_3 t).mp h) (by omega)) (fun h => absurd ((hcond0_4 t).mp h) (by omega)) ((hcond0_5 t).mpr (by omega)) (fun h => absurd ((hcond0_6 t).mp h) (by omega)) (fun h => absurd ((hcond0_7 t).mp h) (by omega)) (fun h => absurd ((hcond0_8 t).mp h) (by omega)) (iblk m c 0 t) (iblk m c 1 t) (iblk m c 2 t) (iblk m c 3 t) (iblk m c 4 t) (iblk m c 5 t) (iblk m c 6 t) (iblk m c 7 t) y.1 y.2.1 y.2.2.1 y.2.2.2.1 y.2.2.2.2
  exact step_of_pieces m c t y R.1 (fun y => View.cover_of_tiledL R.1 S1x256x256.size (by sl_kernel_rfl) y) R.2.2.2.2.2.2

/-- Query block 5 of a group of heads. -/
theorem step_5 (c : Dev nD) (t : Fin cfg0.N) (h : t.val % 8 = 5) (y : Kept F) : ∃ o, Step m c t y o y := by
  let R := kernelRun0_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => absurd ((hcond0_0 t).mp h) (by omega)) (fun h => absurd ((hcond0_1 t).mp h) (by omega)) (fun h => absurd ((hcond0_2 t).mp h) (by omega)) (fun h => absurd ((hcond0_3 t).mp h) (by omega)) (fun h => absurd ((hcond0_4 t).mp h) (by omega)) (fun h => absurd ((hcond0_5 t).mp h) (by omega)) ((hcond0_6 t).mpr (by omega)) (fun h => absurd ((hcond0_7 t).mp h) (by omega)) (fun h => absurd ((hcond0_8 t).mp h) (by omega)) (iblk m c 0 t) (iblk m c 1 t) (iblk m c 2 t) (iblk m c 3 t) (iblk m c 4 t) (iblk m c 5 t) (iblk m c 6 t) (iblk m c 7 t) y.1 y.2.1 y.2.2.1 y.2.2.2.1 y.2.2.2.2
  exact step_of_pieces m c t y R.1 (fun y => View.cover_of_tiledL R.1 S1x256x256.size (by sl_kernel_rfl) y) R.2.2.2.2.2.2

/-- Query block 6 of a group of heads. -/
theorem step_6 (c : Dev nD) (t : Fin cfg0.N) (h : t.val % 8 = 6) (y : Kept F) : ∃ o, Step m c t y o y := by
  let R := kernelRun0_G c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => absurd ((hcond0_0 t).mp h) (by omega)) (fun h => absurd ((hcond0_1 t).mp h) (by omega)) (fun h => absurd ((hcond0_2 t).mp h) (by omega)) (fun h => absurd ((hcond0_3 t).mp h) (by omega)) (fun h => absurd ((hcond0_4 t).mp h) (by omega)) (fun h => absurd ((hcond0_5 t).mp h) (by omega)) (fun h => absurd ((hcond0_6 t).mp h) (by omega)) ((hcond0_7 t).mpr (by omega)) (fun h => absurd ((hcond0_8 t).mp h) (by omega)) (iblk m c 0 t) (iblk m c 1 t) (iblk m c 2 t) (iblk m c 3 t) (iblk m c 4 t) (iblk m c 5 t) (iblk m c 6 t) (iblk m c 7 t) y.1 y.2.1 y.2.2.1 y.2.2.2.1 y.2.2.2.2
  exact step_of_pieces m c t y R.1 (fun y => View.cover_of_tiledL R.1 S1x256x256.size (by sl_kernel_rfl) y) R.2.2.2.2.2.2

/-- Query block 7 of a group of heads. -/
theorem step_7 (c : Dev nD) (t : Fin cfg0.N) (h : t.val % 8 = 7) (y : Kept F) : ∃ o, Step m c t y o y := by
  let R := kernelRun0_H c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => absurd ((hcond0_0 t).mp h) (by omega)) (fun h => absurd ((hcond0_1 t).mp h) (by omega)) (fun h => absurd ((hcond0_2 t).mp h) (by omega)) (fun h => absurd ((hcond0_3 t).mp h) (by omega)) (fun h => absurd ((hcond0_4 t).mp h) (by omega)) (fun h => absurd ((hcond0_5 t).mp h) (by omega)) (fun h => absurd ((hcond0_6 t).mp h) (by omega)) (fun h => absurd ((hcond0_7 t).mp h) (by omega)) ((hcond0_8 t).mpr (by omega)) (iblk m c 0 t) (iblk m c 1 t) (iblk m c 2 t) (iblk m c 3 t) (iblk m c 4 t) (iblk m c 5 t) (iblk m c 6 t) (iblk m c 7 t) y.1 y.2.1 y.2.2.1 y.2.2.2.1 y.2.2.2.2
  exact step_of_pieces m c t y R.1 (fun y => View.cover_of_tiledL R.1 S1x256x256.size (by sl_kernel_rfl) y) R.2.2.2.2.2.2

/-- A query block that is not the first of its group of heads leaves the kept scratch as it is. -/
theorem step_later (c : Dev nD) (t : Fin cfg0.N) (h : ¬t.val % 8 = 0) (y : Kept F) : ∃ o, Step m c t y o y := by
  have : t.val % 8 = 1 ∨ t.val % 8 = 2 ∨ t.val % 8 = 3 ∨ t.val % 8 = 4 ∨ t.val % 8 = 5 ∨ t.val % 8 = 6 ∨ t.val % 8 = 7 := by omega
  rcases this with h | h | h | h | h | h | h
  · exact step_1 m c t h y
  · exact step_2 m c t h y
  · exact step_3 m c t h y
  · exact step_4 m c t h y
  · exact step_5 m c t h y
  · exact step_6 m c t h y
  · exact step_7 m c t h y

/-- What the body leaves at a point, from kept scratch `y`: some output and some kept scratch it does leave. -/
def left (c : Dev nD) (t : Fin cfg0.N) (y : Kept F) : Vec F S1x256x256 .bf16 × Kept F :=
  if h : t.val % 8 = 0 then ⟨(step_first m c t h).choose, (step_first m c t h).choose_spec.choose⟩
  else ⟨(step_later m c t h y).choose, y⟩

/-- The body does leave it; at a first query block from any scratch. -/
theorem step_left (c : Dev nD) (t : Fin cfg0.N) (y z : Kept F) (hz : ¬t.val % 8 = 0 → z = y) :
    Step m c t z (left m c t y).1 (left m c t y).2 := by
  unfold left
  by_cases h : t.val % 8 = 0
  · rw [dif_pos h]; exact (step_first m c t h).choose_spec.choose_spec z
  · rw [dif_neg h, hz h]; exact (step_later m c t h y).choose_spec

/-- The kept scratch before point `n`, point by point; before the first one it does not matter. -/
def kept (c : Dev nD) : (n : ℕ) → n ≤ cfg0.N → Kept F
  | 0, _ => ⟨VS0_0.read (Elt F) VS0_0.junk, VS0_1.read (Elt F) VS0_1.junk, VS0_2.read (Elt F) VS0_2.junk, VS0_3.read (Elt F) VS0_3.junk, VS0_4.read (Elt F) VS0_4.junk⟩
  | n + 1, hn => (left m c ⟨n, hn⟩ (kept c n (Nat.le_of_lt hn))).2

/-- What holds between the points: at the start what the launch gives, then the scratch at its kept contents. -/
def inv (c : Dev nD) : (n : ℕ) → n ≤ cfg0.N → sProp 𝕄
  | 0, _ => Pipeline.ΦA spec0 c
  | n + 1, hn => iprop(scr c (kept m c (n + 1) hn) ∗ (∃ r, prngReg c r))

theorem inv_pos (c : Dev nD) (n : ℕ) (h : n ≤ cfg0.N) (hz : n ≠ 0) : inv m c n h = iprop(scr c (kept m c n h) ∗ (∃ r, prngReg c r)) := by
  cases n with
  | zero => exact absurd rfl hz
  | succ n => rfl

/-- Before any point there is some scratch; it is the kept one but before the first. -/
theorem inv_scr (c : Dev nD) (t : Fin cfg0.N) :
    inv m c t.val (Nat.le_of_lt t.isLt) ⊢ iprop(∃ z, ⌜¬t.val % 8 = 0 → z = kept m c t.val (Nat.le_of_lt t.isLt)⌝ ∗ scr c z ∗ (∃ r, prngReg c r)) := by
  by_cases hz : t.val = 0
  · have he : inv m c t.val (Nat.le_of_lt t.isLt) = Pipeline.ΦA spec0 c := by
      obtain ⟨n, hn⟩ := t; dsimp only at hz; subst hz; rfl
    rw [he, PhiA0_eq]
    iintro ⟨⟨⟨%d0, HS0⟩, ⟨%d1, HS1⟩, ⟨%d2, HS2⟩, ⟨%d3, HS3⟩, ⟨%d4, HS4⟩, HS5⟩, Hg⟩
    iexists (⟨d0, d1, d2, d3, d4⟩ : Kept F)
    isplitr; · ipureintro; intro h; omega
    isplitl [HS0 HS1 HS2 HS3 HS4 HS5]
    · unfold scr; dsimp only
      isplitl [HS0]; · iexact HS0
      isplitl [HS1]; · iexact HS1
      isplitl [HS2]; · iexact HS2
      isplitl [HS3]; · iexact HS3
      isplitl [HS4]; · iexact HS4
      iexact HS5
    iexact Hg
  · rw [inv_pos m c _ _ hz]
    iintro ⟨HS, Hg⟩
    iexists _
    isplitr; · ipureintro; intro _; rfl
    isplitl [HS]; · iexact HS
    iexact Hg

/-- The proof data: the arrays as they are found, each input's block left in place, the output block of `left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (left m c t (kept m c t.val (Nat.le_of_lt t.isLt))).1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem leaves0 (c : Dev nD) (t : Fin cfg0.N) :
    (dats m 0 c).leavesExact 0 t = owns (c : Thread nD τ) (ms0_0 t) fullShare (iblk m c 0 t) := by
  unfold Dat.leavesExact; rw [liveAt0_0 t, after0]
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem leaves1 (c : Dev nD) (t : Fin cfg0.N) :
    (dats m 0 c).leavesExact 1 t = owns (c : Thread nD τ) (ms0_1 t) fullShare (iblk m c 1 t) := by
  unfold Dat.leavesExact; rw [liveAt0_1 t, after1]
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem leaves2 (c : Dev nD) (t : Fin cfg0.N) :
    (dats m 0 c).leavesExact 2 t = owns (c : Thread nD τ) (ms0_2 t) fullShare (iblk m c 2 t) := by
  unfold Dat.leavesExact; rw [liveAt0_2 t, after2]
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem leaves3 (c : Dev nD) (t : Fin cfg0.N) :
    (dats m 0 c).leavesExact 3 t = owns (c : Thread nD τ) (ms0_3 t) fullShare (iblk m c 3 t) := by
  unfold Dat.leavesExact; rw [liveAt0_3 t, after3]
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem leaves4 (c : Dev nD) (t : Fin cfg0.N) :
    (dats m 0 c).leavesExact 4 t = owns (c : Thread nD τ) (ms0_4 t) fullShare (iblk m c 4 t) := by
  unfold Dat.leavesExact; rw [liveAt0_4 t, after4]
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem leaves5 (c : Dev nD) (t : Fin cfg0.N) :
    (dats m 0 c).leavesExact 5 t = owns (c : Thread nD τ) (ms0_5 t) fullShare (iblk m c 5 t) := by
  unfold Dat.leavesExact; rw [liveAt0_5 t, after5]
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem leaves6 (c : Dev nD) (t : Fin cfg0.N) :
    (dats m 0 c).leavesExact 6 t = owns (c : Thread nD τ) (ms0_6 t) fullShare (iblk m c 6 t) := by
  unfold Dat.leavesExact; rw [liveAt0_6 t, after6]
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem leaves7 (c : Dev nD) (t : Fin cfg0.N) :
    (dats m 0 c).leavesExact 7 t = owns (c : Thread nD τ) (ms0_7 t) fullShare (iblk m c 7 t) := by
  unfold Dat.leavesExact; rw [liveAt0_7 t, after7]
theorem after8 (c : Dev nD) (t : Fin cfg0.N) :
    (dats m 0 c).after 8 t = (left m c t (kept m c t.val (Nat.le_of_lt t.isLt))).1 := by dsimp only [dats]
/-- The output window is written at every point. -/
theorem live8 : ∀ t : Fin cfg0.N, cfg0.idle 8 (grid0.coords t) = false := by decide +kernel
theorem leaves8 (c : Dev nD) (t : Fin cfg0.N) :
    (dats m 0 c).leavesExact 8 t = owns (c : Thread nD τ) (ms0_8 t) fullShare (left m c t (kept m c t.val (Nat.le_of_lt t.isLt))).1 := by
  unfold Dat.leavesExact; rw [live8 t, after8]

/-- The body at any point, between what holds before and after it. -/
theorem sound_body (c : Dev nD) (t : Fin cfg0.N) :
    iprop((dats m 0 c).Φ t.castSucc ∗ (dats m 0 c).owesAt () t.castSucc
      ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)) := by
  simp only [before0, before1, before2, before3, before4, before5, before6, before7, leaves0, leaves1, leaves2, leaves3, leaves4, leaves5, leaves6, leaves7, leaves8, inv_castSucc]
  rw [show (dats m 0 c).owesAt () t.succ = (dats m 0 c).owesAt () t.castSucc from rfl]
  rw [show (dats m 0 c).Φ t.succ = iprop(scr c (left m c t (kept m c t.val (Nat.le_of_lt t.isLt))).2 ∗ (∃ r, prngReg c r)) from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave ⟨%z, %hz, HS, Hg⟩ := (inv_scr m c t) $$ HΦ
  have hs := step_left m c t (kept m c t.val (Nat.le_of_lt t.isLt)) z hz
  unfold Step at hs
  iapply (hs _)
  isplitl [H0 H1 H2 H3 H4 H5 H6 H7]
  · unfold ins
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexists _; iexact H8
  isplitl [HS]; · iexact HS
  unfold ins
  iintro ⟨⟨H0, H1, H2, H3, H4, H5, H6, H7⟩, H8, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_row (t : Fin cfg0.N) : defs₀ (F := F) .tc cfg0.body (cfg0.bodyArgs t (cfg0.slots t)) = bodyAt0 t := by
  unfold defs₀; rw [Defs.onTc_tc]

/-- The obligation of the pipeline's rule, at every point. -/
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem start (c : Dev nD) : Pipeline.ΦA spec0 c ⊢ (dats m 0 c).Φ 0 := by
  rw [show (dats m 0 c).Φ 0 = Pipeline.ΦA spec0 c from rfl]
  try exact Idealize.SL.BI.Entails.refl _

/-- After the last point the scratch's contents are forgotten. -/
theorem finish (c : Dev nD) : (dats m 0 c).Φ (Fin.last cfg0.N) ⊢ Pipeline.ΦA spec0 c := by
  have hN : cfg0.N = 256 := N_0
  rw [show (dats m 0 c).Φ (Fin.last cfg0.N) = inv m c cfg0.N (Nat.le_refl _) from rfl, inv_pos m c _ _ (by omega), PhiA0_eq]
  unfold scr
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexact HS5
  iexact Hg

set_option backward.isDefEq.respectTransparency.types false in
/-- Every run ends, with every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := start m) (hout := finish m)

/-- Every run ends, the arguments as they were and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

end Cert.MobaIdeal.Own

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojRefIdeal
public import proofs.«01_k».proof.Proof.Gen.FfnRefIdeal.Run
public import proofs.«01_k».proof.Proof.Gen.OutprojRefIdeal.Run
public import proofs.«01_k».proof.Proof.FfnValue
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojRefIdeal
public import proofs.«01_k».proof.Proof.Gen.InprojRefIdeal.Run
public import proofs.«01_k».proof.Proof.InprojValue
public import proofs.«01_k».proof.Proof.InprojPoint
public import proofs.«01_k».proof.Proof.OutprojValue
public import proofs.«01_k».proof.Proof.Gen.Compress
public import proofs.«01_k».proof.Proof.Gen.Compress.Frame
public import proofs.«01_k».proof.Proof.Gen.CompressIdeal
public import proofs.«01_k».proof.Proof.Gen.CompressIdeal.Frame
public import proofs.«01_k».proof.Proof.Gen.CompressRefIdeal
public import proofs.«01_k».proof.Proof.Gen.CompressRefIdeal.Run
public import proofs.«01_k».proof.Proof.CompressValue
public import proofs.«01_k».proof.Proof.Gen.Moba
public import proofs.«01_k».proof.Proof.Gen.MobaIdeal
public import proofs.«01_k».proof.Proof.MobaFrame
public import proofs.«01_k».proof.Proof.MobaIdealFrame
public import proofs.«01_k».proof.Proof.Gen.Nsa
public import proofs.«01_k».proof.Proof.Gen.Nsa.Frame
public import proofs.«01_k».proof.Proof.Gen.NsaIdeal
public import proofs.«01_k».proof.Proof.Gen.NsaIdeal.Frame
public import Idealize.ShloMosaic.Lib.Claim
public import Idealize.ShloMosaic.Adequacy
public import Idealize.ShloMosaic.Init

@[expose] public section

noncomputable section

namespace Cert.Proof

open Idealize.ShloMosaic Idealize.SL.Sem Cert.Ffn

theorem quiescent_Ffn : Cert.quiescent_Ffn := fun m ρ _ => Cert.Ffn.Gen.frame m ρ

theorem quiescent_FfnIdeal : Cert.quiescent_FfnIdeal := fun m ρ _ => Cert.FfnIdeal.Gen.frame m ρ

theorem quiescent_FfnRefIdeal : Cert.quiescent_FfnRefIdeal := fun m g _ =>
  (θ_run Cert.FfnRefIdeal.defs _ _).mono (fun r h => ⟨fun c => (h c).2,
      Idealize.ShloMosaic.sem_eq_zero_of_no_sems (by decide) r.2⟩)
    (Cert.FfnRefIdeal.Value.run m g)

theorem preserves_Ffn : Cert.preserves_Ffn_FfnIdeal := trivial

theorem algebraic_Ffn : Cert.algebraic_FfnIdeal_FfnRefIdeal := by
  pair_intro
  · run_from Cert.FfnIdeal.Gen.run_main m g
  · run_from Cert.FfnRefIdeal.Value.run m' g'
    exact (Cert.FfnIdeal.RowValue.final m c).symm

theorem quiescent_Outproj : Cert.quiescent_Outproj := fun m ρ _ => Cert.Outproj.Gen.frame m ρ

theorem quiescent_OutprojIdeal : Cert.quiescent_OutprojIdeal := fun m ρ _ => Cert.OutprojIdeal.Gen.frame m ρ

theorem quiescent_OutprojRefIdeal : Cert.quiescent_OutprojRefIdeal := fun m g _ =>
  (θ_run Cert.OutprojRefIdeal.defs _ _).mono (fun r h => ⟨fun c => (h c).2,
      Idealize.ShloMosaic.sem_eq_zero_of_no_sems (by decide) r.2⟩)
    (Cert.OutprojRefIdeal.Value.run m g)

theorem preserves_Outproj : Cert.preserves_Outproj_OutprojIdeal := trivial

theorem algebraic_Outproj : Cert.algebraic_OutprojIdeal_OutprojRefIdeal := by
  pair_intro
  · run_from Cert.OutprojIdeal.Gen.run_main m g
  · run_from Cert.OutprojRefIdeal.Value.run m' g'
    obtain ⟨h0, h1, h2, h3, h4, h5, h6, h7, h8, h9, h10, h11⟩ := hagree c
    rw [Cert.OutprojIdeal.RowValue.final m c, Cert.OutprojRefIdeal.RowValue.res_eq m' c,
      h0, h1, h2, h3, h4, h5, h6, h7, h8, h9, h10, h11]

theorem quiescent_Inproj : Cert.quiescent_Inproj := fun m ρ _ => Cert.Inproj.Gen.frame m ρ

theorem quiescent_InprojIdeal : Cert.quiescent_InprojIdeal := fun m ρ _ => Cert.InprojIdeal.Gen.frame m ρ

theorem quiescent_InprojRefIdeal : Cert.quiescent_InprojRefIdeal := fun m g _ =>
  (θ_run Cert.InprojRefIdeal.defs _ _).mono (fun r h => ⟨fun c => (h c).2.2.2.2.2.2.2.2.2,
      Idealize.ShloMosaic.sem_eq_zero_of_no_sems (by decide) r.2⟩)
    (Cert.InprojRefIdeal.Value.run m g)

theorem preserves_Inproj : Cert.preserves_Inproj_InprojIdeal := trivial

set_option maxHeartbeats 4000000 in
theorem algebraic_Inproj : Cert.algebraic_InprojIdeal_InprojRefIdeal := by
  pair_intro
  · run_from Cert.InprojIdeal.Gen.run_main m g
    · exact Cert.InprojIdeal.Gen.V_main_arg1 m c
    · exact Cert.InprojIdeal.Gen.V_main_arg2 m c
  · run_from Cert.InprojRefIdeal.Value.run m' g'
    · obtain ⟨h0, h1, h2⟩ := hagree c
      rw [Cert.InprojIdeal.RowValue.final4 m c]
      unfold Cert.InprojRefIdeal.Value.res_main_v39
      rw [h0, h1, h2]
      rfl
    · exact (Cert.InprojIdeal.RowValue.final5 m c).symm
    · exact (Cert.InprojIdeal.RowValue.final6 m c).symm
    · exact (Cert.InprojIdeal.RowValue.final7 m c).symm
    · exact (Cert.InprojIdeal.RowValue.final8 m c).symm
    · exact (Cert.InprojIdeal.RowValue.final9 m c).symm
    · rw [Cert.InprojIdeal.RowValue.final10 m c, ← (hagree c).2.2]
      rfl
    · exact (Cert.InprojIdeal.RowValue.final11 m c).symm
    · exact (Cert.InprojIdeal.RowValue.final12 m c).symm

theorem quiescent_Compress : Cert.quiescent_Compress := fun m ρ _ => Cert.Compress.Gen.frame m ρ

theorem quiescent_CompressIdeal : Cert.quiescent_CompressIdeal := fun m ρ _ => Cert.CompressIdeal.Gen.frame m ρ

theorem quiescent_CompressRefIdeal : Cert.quiescent_CompressRefIdeal := fun m g _ =>
  (θ_run Cert.CompressRefIdeal.defs _ _).mono (fun r h => ⟨fun c => (h c).2.2,
      Idealize.ShloMosaic.sem_eq_zero_of_no_sems (by decide) r.2⟩)
    (Cert.CompressRefIdeal.Value.run m g)

theorem preserves_Compress : Cert.preserves_Compress_CompressIdeal := trivial

theorem algebraic_Compress : Cert.algebraic_CompressIdeal_CompressRefIdeal := by
  pair_intro
  · run_from Cert.CompressIdeal.Gen.run_main m g
  · run_from Cert.CompressRefIdeal.Value.run m' g'
    · obtain ⟨h0, h1, h2, h3, h4⟩ := hagree c
      rw [Cert.CompressIdeal.RowValue.final7 m c, Cert.CompressRefIdeal.RowValue.res0_eq m' c, h0, h1, h2, h3, h4]
    · obtain ⟨h0, h1, h2, h3, h4⟩ := hagree c
      rw [Cert.CompressIdeal.RowValue.final8 m c, Cert.CompressRefIdeal.RowValue.res1_eq m' c, h0, h1, h2, h3]

theorem quiescent_Moba : Cert.quiescent_Moba := fun m ρ _ => Cert.Moba.Own.quiet m ρ

theorem quiescent_MobaIdeal : Cert.quiescent_MobaIdeal := fun m ρ _ => Cert.MobaIdeal.Own.quiet m ρ

theorem preserves_Moba : Cert.preserves_Moba_MobaIdeal := trivial

theorem quiescent_Nsa : Cert.quiescent_Nsa := fun m ρ _ => Cert.Nsa.Gen.frame m ρ

theorem quiescent_NsaIdeal : Cert.quiescent_NsaIdeal := fun m ρ _ => Cert.NsaIdeal.Gen.frame m ρ

theorem preserves_Nsa : Cert.preserves_Nsa_NsaIdeal := trivial

theorem claim : Cert.Claim := ⟨Cert.Ffn.Gen.facts, Cert.FfnIdeal.Gen.facts, Cert.FfnRefIdeal.Gen.facts, Cert.Outproj.Gen.facts, Cert.OutprojIdeal.Gen.facts, Cert.OutprojRefIdeal.Gen.facts, Cert.Inproj.Gen.facts, Cert.InprojIdeal.Gen.facts, Cert.InprojRefIdeal.Gen.facts, Cert.Compress.Gen.facts, Cert.CompressIdeal.Gen.facts, Cert.CompressRefIdeal.Gen.facts, Cert.Moba.Gen.facts, Cert.MobaIdeal.Gen.facts, Cert.Nsa.Gen.facts, Cert.NsaIdeal.Gen.facts, quiescent_Ffn, quiescent_FfnIdeal, quiescent_FfnRefIdeal, quiescent_Outproj, quiescent_OutprojIdeal, quiescent_OutprojRefIdeal, quiescent_Inproj, quiescent_InprojIdeal, quiescent_InprojRefIdeal, quiescent_Compress, quiescent_CompressIdeal, quiescent_CompressRefIdeal, quiescent_Moba, quiescent_MobaIdeal, quiescent_Nsa, quiescent_NsaIdeal, preserves_Ffn, algebraic_Ffn, preserves_Outproj, algebraic_Outproj, preserves_Inproj, algebraic_Inproj, preserves_Compress, algebraic_Compress, preserves_Moba, preserves_Nsa⟩

end Cert.Proof

end
